-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Down_DownIdeal : Prop :=
  IdealRules.bf16_pair.Statement Cert.DownIdeal.S8x1x2x128 Cert.DownIdeal.S8x1x1x128
  ∧ IdealRules.bf16_pair.Statement Cert.DownIdeal.S16x128 Cert.DownIdeal.S8x128
  ∧ IdealRules.bf16_pair.PackStatement Cert.DownIdeal.S8x128

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0_0) = v0 c
          ∧ r.2.mem ((c.tc : Thread Cert.DownReferenceIdeal.nD Cert.DownReferenceIdeal.τ).loc Cert.DownReferenceIdeal.main_v0_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
-- ==== Kernel.lean ====
abbrev S1536x4096 : Shape := ⟨2, ![1536, 4096]⟩
abbrev S4096x3584 : Shape := ⟨2, ![4096, 3584]⟩
abbrev S32x28 : Shape := ⟨2, ![32, 28]⟩
abbrev S1536x3584 : Shape := ⟨2, ![1536, 3584]⟩
abbrev S6x256x3584 : Shape := ⟨3, ![6, 256, 3584]⟩
abbrev S14x6x2x256 : Shape := ⟨4, ![14, 6, 2, 256]⟩
abbrev S6x3584x256 : Shape := ⟨3, ![6, 3584, 256]⟩
abbrev S6x2x3584 : Shape := ⟨3, ![6, 2, 3584]⟩
abbrev S4096x256 : Shape := ⟨2, ![4096, 256]⟩
abbrev S1536x256 : Shape := ⟨2, ![1536, 256]⟩
abbrev S6x256x256 : Shape := ⟨3, ![6, 256, 256]⟩
abbrev S1x6x2x256 : Shape := ⟨4, ![1, 6, 2, 256]⟩
abbrev S6x2x256 : Shape := ⟨3, ![6, 2, 256]⟩
abbrev S1x1 : Shape := ⟨2, ![1, 1]⟩
abbrev S128x128 : Shape := ⟨2, ![128, 128]⟩
abbrev S256x4096 : Shape := ⟨2, ![256, 4096]⟩
abbrev S256x256 : Shape := ⟨2, ![256, 256]⟩
abbrev S128 : Shape := ⟨1, ![128]⟩
abbrev S128x1 : Shape := ⟨2, ![128, 1]⟩
abbrev S1x128 : Shape := ⟨2, ![1, 128]⟩
abbrev S8x128 : Shape := ⟨2, ![8, 128]⟩
abbrev S1x128x128 : Shape := ⟨3, ![1, 128, 128]⟩
abbrev S1x1x128 : Shape := ⟨3, ![1, 1, 128]⟩
abbrev S2x128 : Shape := ⟨2, ![2, 128]⟩
abbrev S1x1x2x128 : Shape := ⟨4, ![1, 1, 2, 128]⟩

abbrev nBuf : Space → Nat
  | .hbm => 10
  | .vmem => 17
  | .smem => 2
  | _ => 0

abbrev bufTy : (tb : Table) → Fin (tcTables nBuf tb) → BufTy
  | .hbm, ⟨0, _⟩ => ⟨S1536x4096, .bf16⟩
  | .hbm, ⟨1, _⟩ => ⟨S4096x3584, .fp8e4m3⟩
  | .hbm, ⟨2, _⟩ => ⟨S4096x3584, .fp8e4m3⟩
  | .hbm, ⟨3, _⟩ => ⟨S32x28, .f32⟩
  | .hbm, ⟨4, _⟩ => ⟨S32x28, .f32⟩
  | .hbm, ⟨5, _⟩ => ⟨S1536x3584, .bf16⟩
  | .hbm, ⟨6, _⟩ => ⟨S6x256x3584, .fp8e4m3⟩
  | .hbm, ⟨7, _⟩ => ⟨S14x6x2x256, .f32⟩
  | .hbm, ⟨8, _⟩ => ⟨S6x3584x256, .fp8e4m3⟩
  | .hbm, ⟨9, _⟩ => ⟨S6x2x3584, .f32⟩
  | .local _ .vmem, ⟨0, _⟩ => ⟨S1536x4096, .bf16⟩
  | .local _ .vmem, ⟨1, _⟩ => ⟨S4096x256, .fp8e4m3⟩
  | .local _ .vmem, ⟨2, _⟩ => ⟨S4096x256, .fp8e4m3⟩
  | .local _ .vmem, ⟨3, _⟩ => ⟨S4096x256, .fp8e4m3⟩
  | .local _ .vmem, ⟨4, _⟩ => ⟨S4096x256, .fp8e4m3⟩
  | .local _ .vmem, ⟨5, _⟩ => ⟨S1536x256, .bf16⟩
  | .local _ .vmem, ⟨6, _⟩ => ⟨S1536x256, .bf16⟩
  | .local _ .vmem, ⟨7, _⟩ => ⟨S6x256x256, .fp8e4m3⟩
  | .local _ .vmem, ⟨8, _⟩ => ⟨S6x256x256, .fp8e4m3⟩
  | .local _ .vmem, ⟨9, _⟩ => ⟨S1x6x2x256, .f32⟩
  | .local _ .vmem, ⟨10, _⟩ => ⟨S1x6x2x256, .f32⟩
  | .local _ .vmem, ⟨11, _⟩ => ⟨S6x256x256, .fp8e4m3⟩
  | .local _ .vmem, ⟨12, _⟩ => ⟨S6x256x256, .fp8e4m3⟩
  | .local _ .vmem, ⟨13, _⟩ => ⟨S6x2x256, .f32⟩
  | .local _ .vmem, ⟨14, _⟩ => ⟨S6x2x256, .f32⟩
  | .local _ .vmem, ⟨15, _⟩ => ⟨S4096x256, .bf16⟩
  | .local _ .vmem, ⟨16, _⟩ => ⟨S4096x256, .bf16⟩
  | .local _ .smem, ⟨0, _⟩ => ⟨S32x28, .f32⟩
  | .local _ .smem, ⟨1, _⟩ => ⟨S32x28, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![14], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg0 : BitVec 32 := BitVec.ofNat 32 (i 0).val
  let c2_i32 : BitVec 32 := 2#32
  let v0 : BitVec 32 := Scalar.muli arg0 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg0 : BitVec 32 := BitVec.ofNat 32 (i 0).val
  let c2_i32 : BitVec 32 := 2#32
  let v0 : BitVec 32 := Scalar.muli arg0 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg0 : BitVec 32 := BitVec.ofNat 32 (i 0).val
  let c2_i32 : BitVec 32 := 2#32
  let v0 : BitVec 32 := Scalar.muli arg0 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg0 : BitVec 32 := BitVec.ofNat 32 (i 0).val
  let c2_i32 : BitVec 32 := 2#32
  let v0 : BitVec 32 := Scalar.muli arg0 c2_i32
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let arg0 : BitVec 32 := BitVec.ofNat 32 (i 0).val
  let c2_i32 : BitVec 32 := 2#32
  let v0 : BitVec 32 := Scalar.muli arg0 c2_i32
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let arg0 : BitVec 32 := BitVec.ofNat 32 (i 0).val
  let c2_i32 : BitVec 32 := 2#32
  let v0 : BitVec 32 := Scalar.muli arg0 c2_i32
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let arg0 : BitVec 32 := BitVec.ofNat 32 (i 0).val
  let c2_i32 : BitVec 32 := 2#32
  let v0 : BitVec 32 := Scalar.muli arg0 c2_i32
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let arg0 : BitVec 32 := BitVec.ofNat 32 (i 0).val
  let c2_i32 : BitVec 32 := 2#32
  let v0 : BitVec 32 := Scalar.muli arg0 c2_i32
  let v683 : BitVec 32 := Scalar.addi v0 c0_i32_309
  let v684 : Index := Scalar.indexCast v683
  ![31, v684.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S32x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x256x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x256x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1536x4096 : Shape := ⟨2, ![1536, 4096]⟩
abbrev S4096x3584 : Shape := ⟨2, ![4096, 3584]⟩
abbrev S32x28 : Shape := ⟨2, ![32, 28]⟩
abbrev S1536x3584 : Shape := ⟨2, ![1536, 3584]⟩
abbrev S6x256x3584 : Shape := ⟨3, ![6, 256, 3584]⟩
abbrev S14x6x2x256 : Shape := ⟨4, ![14, 6, 2, 256]⟩
abbrev S6x3584x256 : Shape := ⟨3, ![6, 3584, 256]⟩
abbrev S6x2x3584 : Shape := ⟨3, ![6, 2, 3584]⟩
abbrev S32x128x28x128 : Shape := ⟨4, ![32, 128, 28, 128]⟩
abbrev S32x1x28x1 : Shape := ⟨4, ![32, 1, 28, 1]⟩
abbrev S1536x28x128 : Shape := ⟨3, ![1536, 28, 128]⟩
abbrev S1536x28 : Shape := ⟨2, ![1536, 28]⟩
abbrev S1536x28x1 : Shape := ⟨3, ![1536, 28, 1]⟩
abbrev S6x256x14x2 : Shape := ⟨4, ![6, 256, 14, 2]⟩
abbrev S6x2x128x3584 : Shape := ⟨4, ![6, 2, 128, 3584]⟩
abbrev S6x2x1x3584 : Shape := ⟨4, ![6, 2, 1, 3584]⟩

abbrev nBuf : Space → Nat
  | .hbm => 10
  | .vmem => 10
  | .smem => 0
  | _ => 0

abbrev bufTy : (tb : Table) → Fin (tcTables nBuf tb) → BufTy
  | .hbm, ⟨0, _⟩ => ⟨S1536x4096, .bf16⟩
  | .hbm, ⟨1, _⟩ => ⟨S4096x3584, .fp8e4m3⟩
  | .hbm, ⟨2, _⟩ => ⟨S4096x3584, .fp8e4m3⟩
  | .hbm, ⟨3, _⟩ => ⟨S32x28, .f32⟩
  | .hbm, ⟨4, _⟩ => ⟨S32x28, .f32⟩
  | .hbm, ⟨5, _⟩ => ⟨S1536x3584, .bf16⟩
  | .hbm, ⟨6, _⟩ => ⟨S6x256x3584, .fp8e4m3⟩
  | .hbm, ⟨7, _⟩ => ⟨S14x6x2x256, .f32⟩
  | .hbm, ⟨8, _⟩ => ⟨S6x3584x256, .fp8e4m3⟩
  | .hbm, ⟨9, _⟩ => ⟨S6x2x3584, .f32⟩
  | .local _ .vmem, ⟨0, _⟩ => ⟨S1536x4096, .bf16⟩
  | .local _ .vmem, ⟨1, _⟩ => ⟨S4096x3584, .fp8e4m3⟩
  | .local _ .vmem, ⟨2, _⟩ => ⟨S4096x3584, .fp8e4m3⟩
  | .local _ .vmem, ⟨3, _⟩ => ⟨S32x28, .f32⟩
  | .local _ .vmem, ⟨4, _⟩ => ⟨S32x28, .f32⟩
  | .local _ .vmem, ⟨5, _⟩ => ⟨S1536x3584, .bf16⟩
  | .local _ .vmem, ⟨6, _⟩ => ⟨S6x256x3584, .fp8e4m3⟩
  | .local _ .vmem, ⟨7, _⟩ => ⟨S14x6x2x256, .f32⟩
  | .local _ .vmem, ⟨8, _⟩ => ⟨S6x3584x256, .fp8e4m3⟩
  | .local _ .vmem, ⟨9, _⟩ => ⟨S6x2x3584, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x6x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x3584x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Down.lean ====
abbrev S1536x3584 : Shape := ⟨2, ![1536, 3584]⟩
abbrev S1536x128 : Shape := ⟨2, ![1536, 128]⟩
abbrev S3584x4096 : Shape := ⟨2, ![3584, 4096]⟩
abbrev S28x32 : Shape := ⟨2, ![28, 32]⟩
abbrev S1536x32x4x128 : Shape := ⟨4, ![1536, 32, 4, 128]⟩
abbrev S1536x4096 : Shape := ⟨2, ![1536, 4096]⟩
abbrev S3584x256 : Shape := ⟨2, ![3584, 256]⟩
abbrev S1536x2x4x128 : Shape := ⟨4, ![1536, 2, 4, 128]⟩
abbrev S1536x256 : Shape := ⟨2, ![1536, 256]⟩
abbrev S1x1 : Shape := ⟨2, ![1, 1]⟩
abbrev S128x128 : Shape := ⟨2, ![128, 128]⟩
abbrev S256x3584 : Shape := ⟨2, ![256, 3584]⟩
abbrev S256x256 : Shape := ⟨2, ![256, 256]⟩
abbrev S8x128 : Shape := ⟨2, ![8, 128]⟩
abbrev S8x1 : Shape := ⟨2, ![8, 1]⟩
abbrev S1536x2x2x128 : Shape := ⟨4, ![1536, 2, 2, 128]⟩
abbrev S6144x128 : Shape := ⟨2, ![6144, 128]⟩
abbrev S32x128 : Shape := ⟨2, ![32, 128]⟩
abbrev S8x1x2x128 : Shape := ⟨4, ![8, 1, 2, 128]⟩
abbrev S8x1x1x128 : Shape := ⟨4, ![8, 1, 1, 128]⟩

abbrev nBuf : Space → Nat
  | .hbm => 7
  | .vmem => 11
  | .smem => 1
  | _ => 0

abbrev bufTy : (tb : Table) → Fin (tcTables nBuf tb) → BufTy
  | .hbm, ⟨0, _⟩ => ⟨S1536x3584, .bf16⟩
  | .hbm, ⟨1, _⟩ => ⟨S1536x128, .f32⟩
  | .hbm, ⟨2, _⟩ => ⟨S3584x4096, .fp8e4m3⟩
  | .hbm, ⟨3, _⟩ => ⟨S28x32, .f32⟩
  | .hbm, ⟨4, _⟩ => ⟨S1536x32x4x128, .bf16⟩
  | .hbm, ⟨5, _⟩ => ⟨S1536x32x4x128, .bf16⟩
  | .hbm, ⟨6, _⟩ => ⟨S1536x4096, .bf16⟩
  | .local _ .vmem, ⟨0, _⟩ => ⟨S1536x3584, .bf16⟩
  | .local _ .vmem, ⟨1, _⟩ => ⟨S1536x128, .f32⟩
  | .local _ .vmem, ⟨2, _⟩ => ⟨S3584x256, .fp8e4m3⟩
  | .local _ .vmem, ⟨3, _⟩ => ⟨S3584x256, .fp8e4m3⟩
  | .local _ .vmem, ⟨4, _⟩ => ⟨S1536x2x4x128, .bf16⟩
  | .local _ .vmem, ⟨5, _⟩ => ⟨S1536x2x4x128, .bf16⟩
  | .local _ .vmem, ⟨6, _⟩ => ⟨S1536x2x4x128, .bf16⟩
  | .local _ .vmem, ⟨7, _⟩ => ⟨S1536x2x4x128, .bf16⟩
  | .local _ .vmem, ⟨8, _⟩ => ⟨S1536x256, .bf16⟩
  | .local _ .vmem, ⟨9, _⟩ => ⟨S1536x256, .bf16⟩
  | .local _ .vmem, ⟨10, _⟩ => ⟨S3584x256, .bf16⟩
  | .local _ .smem, ⟨0, _⟩ => ⟨S28x32, .f32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![16], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg0 : BitVec 32 := BitVec.ofNat 32 (i 0).val
  let c2_i32 : BitVec 32 := 2#32
  let v0 : BitVec 32 := Scalar.muli arg0 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg0 : BitVec 32 := BitVec.ofNat 32 (i 0).val
  let c2_i32 : BitVec 32 := 2#32
  let v0 : BitVec 32 := Scalar.muli arg0 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg0 : BitVec 32 := BitVec.ofNat 32 (i 0).val
  let c2_i32 : BitVec 32 := 2#32
  let v0 : BitVec 32 := Scalar.muli arg0 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg0 : BitVec 32 := BitVec.ofNat 32 (i 0).val
  let c2_i32 : BitVec 32 := 2#32
  let v0 : BitVec 32 := Scalar.muli arg0 c2_i32
  let v595 : BitVec 32 := Scalar.addi v0 c0_i32_269
  let v596 : Index := Scalar.indexCast v595
  ![27, v596.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S28x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x2x4x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x2x4x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownIdeal.lean ====
abbrev S16x128 : Shape := ⟨2, ![16, 128]⟩
variable {F : FTy → Type} [FloatOps F]
-- ==== DownReferenceIdeal.lean ====
abbrev S1536x3584 : Shape := ⟨2, ![1536, 3584]⟩
abbrev S1536x128 : Shape := ⟨2, ![1536, 128]⟩
abbrev S3584x4096 : Shape := ⟨2, ![3584, 4096]⟩
abbrev S28x32 : Shape := ⟨2, ![28, 32]⟩
abbrev S1536x32x4x128 : Shape := ⟨4, ![1536, 32, 4, 128]⟩
abbrev S1536x4096 : Shape := ⟨2, ![1536, 4096]⟩
abbrev S28x128x32x128 : Shape := ⟨4, ![28, 128, 32, 128]⟩
abbrev S28x1x32x1 : Shape := ⟨4, ![28, 1, 32, 1]⟩
abbrev S1536x4 : Shape := ⟨2, ![1536, 4]⟩
abbrev S1536x16 : Shape := ⟨2, ![1536, 16]⟩
abbrev S1536x4x4 : Shape := ⟨3, ![1536, 4, 4]⟩
abbrev S1536x1x4x4x1 : Shape := ⟨5, ![1536, 1, 4, 4, 1]⟩
abbrev S1536x32x1x4x128 : Shape := ⟨5, ![1536, 32, 1, 4, 128]⟩
abbrev S1536x32x4x4x128 : Shape := ⟨5, ![1536, 32, 4, 4, 128]⟩
abbrev S1536x1x4x1 : Shape := ⟨4, ![1536, 1, 4, 1]⟩
abbrev S1536x32x1x128 : Shape := ⟨4, ![1536, 32, 1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1536x3584, .bf16⟩
  | .hbm, ⟨1, _⟩ => ⟨S1536x128, .f32⟩
  | .hbm, ⟨2, _⟩ => ⟨S3584x4096, .fp8e4m3⟩
  | .hbm, ⟨3, _⟩ => ⟨S28x32, .f32⟩
  | .hbm, ⟨4, _⟩ => ⟨S1536x32x4x128, .bf16⟩
  | .hbm, ⟨5, _⟩ => ⟨S1536x32x4x128, .bf16⟩
  | .hbm, ⟨6, _⟩ => ⟨S1536x4096, .bf16⟩
  | .local _ .vmem, ⟨0, _⟩ => ⟨S1536x3584, .bf16⟩
  | .local _ .vmem, ⟨1, _⟩ => ⟨S1536x128, .f32⟩
  | .local _ .vmem, ⟨2, _⟩ => ⟨S3584x4096, .fp8e4m3⟩
  | .local _ .vmem, ⟨3, _⟩ => ⟨S28x32, .f32⟩
  | .local _ .vmem, ⟨4, _⟩ => ⟨S1536x32x4x128, .bf16⟩
  | .local _ .vmem, ⟨5, _⟩ => ⟨S1536x32x4x128, .bf16⟩
  | .local _ .vmem, ⟨6, _⟩ => ⟨S1536x4096, .bf16⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x32x4x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x32x4x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  The scale of one group of values, at one number: the search over the bits of an f32 word and the clipped
  floor of the base-2 logarithm name the same power of two.
-/
module

public import Idealize.ShloMosaic.PureOps.Ideal

@[expose] public section

noncomputable section

open Idealize.ShloMosaic

namespace Cert.Quantise

/-- The value of the f32 word whose exponent field is `e` and whose other bits are zero. -/
def bin (e : ℕ) : EReal := Ideal.ofBits .f32 (BitVec.ofNat 32 (e * 2 ^ 23))

/-- The number that a word with only exponent bits stands for: its sign, exponent and mantissa, word by word. -/
theorem bin_word : ∀ e : Fin 256, ((BitVec.ofNat 32 (e.val * 2 ^ 23)).extractLsb' 31 1 == 1#1) = false
    ∧ ((BitVec.ofNat 32 (e.val * 2 ^ 23)).extractLsb' 23 8).toNat = e.val
    ∧ ((BitVec.ofNat 32 (e.val * 2 ^ 23)).extractLsb' 0 23).toNat = 0 := by decide +kernel

/-- Exponent field zero is the number zero. -/
theorem bin_zero : bin 0 = 0 := by
  have h := bin_word 0
  have e : ((0 : Fin 256) : ℕ) = 0 := rfl
  rw [e] at h
  simp only [bin, Ideal.ofBits, Ideal.ieee, Nat.reduceAdd, h.1, h.2.1, h.2.2]
  norm_num

/-- Exponent field 255 is infinity. -/
theorem bin_top : bin 255 = ⊤ := by
  have h := bin_word 255
  have e : ((255 : Fin 256) : ℕ) = 255 := rfl
  rw [e] at h
  simp only [bin, Ideal.ofBits, Ideal.ieee, Nat.reduceAdd, h.1, h.2.1, h.2.2]
  norm_num

/-- Any other exponent field `e` is the power of two `2 ^ (e - 127)`. -/
theorem bin_normal (e : ℕ) (h1 : 1 ≤ e) (h2 : e ≤ 254) : bin e = (((2 : ℝ) ^ ((e : ℤ) - 127) : ℝ) : EReal) := by
  have h := bin_word ⟨e, by omega⟩
  simp only at h
  simp only [bin, Ideal.ofBits, Ideal.ieee, Nat.reduceAdd, h.1, h.2.1, h.2.2]
  rw [if_neg (by norm_num; omega), if_neg (by omega)]
  congr 1
  have : ((e : ℤ) - 127) = 23 + ((e : ℤ) - (2 ^ (8 - 1) - 1) - (23 : ℕ)) := by norm_num
  rw [this, zpow_add₀ (by norm_num : (2 : ℝ) ≠ 0)]
  norm_num

/-- One step of the search: keep the bit `k` when the word with it is not above `v`. -/
def step (v : EReal) (k b : BitVec 32) : BitVec 32 :=
  Scalar.select (Ideal.cmp .oge v (Ideal.ofBits .f32 (IntOp.ori b k))) (IntOp.ori b k) b

/-- Setting a bit of the exponent field that is still clear adds its power of two. -/
theorem ori_word : ∀ j : Fin 8, ∀ e : Fin 256, 2 ^ (j.val + 1) ∣ e.val →
    IntOp.ori (BitVec.ofNat 32 (e.val * 2 ^ 23)) (BitVec.ofNat 32 (2 ^ (j.val + 23)))
      = BitVec.ofNat 32 ((e.val + 2 ^ j.val) * 2 ^ 23) := by decide +kernel

/-- `e` is a multiple of `2 ^ j`, the word of exponent `e` is not above `v` and the next multiple's is. -/
def Found (v : EReal) (j e : ℕ) : Prop :=
  2 ^ j ∣ e ∧ e + 2 ^ j ≤ 256 ∧ bin e ≤ v ∧ (e + 2 ^ j = 256 ∨ v < bin (e + 2 ^ j))

/-- One step of the search halves the range. -/
theorem step_found (v : EReal) (j e : ℕ) (hj : j < 8) (h : Found v (j + 1) e) :
    ∃ e', step v (BitVec.ofNat 32 (2 ^ (j + 23))) (BitVec.ofNat 32 (e * 2 ^ 23)) = BitVec.ofNat 32 (e' * 2 ^ 23)
      ∧ Found v j e' := by
  obtain ⟨hd, he, lo, hi⟩ := h
  have hp : 2 ^ (j + 1) = 2 ^ j + 2 ^ j := by rw [pow_succ]; omega
  have hpos : 0 < 2 ^ j := by positivity
  have hor := ori_word ⟨j, hj⟩ ⟨e, by omega⟩ hd
  simp only at hor
  have hd' : 2 ^ j ∣ e := (pow_dvd_pow 2 (Nat.le_succ j)).trans hd
  unfold step
  rw [hor]
  by_cases hc : bin (e + 2 ^ j) ≤ v
  · refine ⟨e + 2 ^ j, ?_, hd'.add (dvd_refl _), by omega, hc, ?_⟩
    · have hc' : Ideal.ofBits .f32 (BitVec.ofNat 32 ((e + 2 ^ j) * 2 ^ 23)) ≤ v := hc
      simp only [Scalar.select, Ideal.cmp, hc', decide_true, BitVec.ofBool_true, if_true]
    · rw [add_assoc, ← hp]; exact hi
  · refine ⟨e, ?_, hd', by omega, lo, Or.inr (not_le.mp hc)⟩
    have hc' : ¬ Ideal.ofBits .f32 (BitVec.ofNat 32 ((e + 2 ^ j) * 2 ^ 23)) ≤ v := hc
    simp only [Scalar.select, Ideal.cmp, hc', decide_false, BitVec.ofBool_false]
    rfl

/-- The exponent field found by the eight steps, cut at 246. -/
def field (v : EReal) : BitVec 32 :=
  IntOp.minui (step v 8388608#32 (step v 16777216#32 (step v 33554432#32 (step v 67108864#32
    (step v 134217728#32 (step v 268435456#32 (step v 536870912#32 (step v 1073741824#32 0#32)))))))) 2063597568#32

/-- The cap on the exponent field, word by word. -/
theorem minui_word : ∀ e : Fin 256, IntOp.minui (BitVec.ofNat 32 (e.val * 2 ^ 23)) 2063597568#32
    = BitVec.ofNat 32 (min e.val 246 * 2 ^ 23) := by decide +kernel

/-- The search ends at the greatest exponent whose word is not above `v`. -/
theorem field_eq (v : EReal) (hv : 0 ≤ v) :
    ∃ e, field v = BitVec.ofNat 32 (min e 246 * 2 ^ 23) ∧ Found v 0 e := by
  have h0 : Found v 8 0 := ⟨dvd_zero _, by norm_num, by rw [bin_zero]; exact hv, Or.inl (by norm_num)⟩
  obtain ⟨e1, q1, h1⟩ := step_found v 7 0 (by norm_num) h0
  obtain ⟨e2, q2, h2⟩ := step_found v 6 e1 (by norm_num) h1
  obtain ⟨e3, q3, h3⟩ := step_found v 5 e2 (by norm_num) h2
  obtain ⟨e4, q4, h4⟩ := step_found v 4 e3 (by norm_num) h3
  obtain ⟨e5, q5, h5⟩ := step_found v 3 e4 (by norm_num) h4
  obtain ⟨e6, q6, h6⟩ := step_found v 2 e5 (by norm_num) h5
  obtain ⟨e7, q7, h7⟩ := step_found v 1 e6 (by norm_num) h6
  obtain ⟨e8, q8, h8⟩ := step_found v 0 e7 (by norm_num) h7
  norm_num at q1 q2 q3 q4 q5 q6 q7 q8
  refine ⟨e8, ?_, h8⟩
  unfold field
  rw [q1, q2, q3, q4, q5, q6, q7, q8]
  exact minui_word ⟨e8, by have := h8.2.1; norm_num at this; omega⟩

/-- The scale: the power of two one exponent above the field found. -/
def scaleOf (v : EReal) : EReal := Ideal.ofBits .f32 (IntOp.addi (field v) 8388608#32)

/-- The scale's inverse, from the same field. -/
def invOf (v : EReal) : EReal := Ideal.ofBits .f32 (IntOp.subi 2122317824#32 (field v))

/-- The exponent as the reference states it: the floor of the base-2 logarithm plus one, clipped to [-126, 120]. -/
def expOf (v : EReal) : EReal :=
  min ((120 : ℝ) : EReal) (max ((-126 : ℝ) : EReal)
    (Ideal.liftRound Int.floor (Ideal.div (Ideal.log v) (Ideal.log ((2 : ℝ) : EReal))) + 1))

/-- Adding one to the exponent field. -/
theorem addi_word : ∀ e : Fin 247, IntOp.addi (BitVec.ofNat 32 (e.val * 2 ^ 23)) 8388608#32
    = BitVec.ofNat 32 ((e.val + 1) * 2 ^ 23) := by decide +kernel
/-- Subtracting the exponent field from that of the largest inverse scale. -/
theorem subi_word : ∀ e : Fin 247, IntOp.subi 2122317824#32 (BitVec.ofNat 32 (e.val * 2 ^ 23))
    = BitVec.ofNat 32 ((253 - e.val) * 2 ^ 23) := by decide +kernel

/-- The logarithm of a positive real number. -/
theorem log_pos_coe (r : ℝ) (hr : 0 < r) : Ideal.log (r : EReal) = ((Real.log r : ℝ) : EReal) := by
  show (if r ≤ 0 then (⊥ : EReal) else ((Real.log r : ℝ) : EReal)) = _
  rw [if_neg (not_le.mpr hr)]
/-- The logarithm of zero is minus infinity. -/
theorem log_zero : Ideal.log ((0 : ℝ) : EReal) = ⊥ := by
  show (if (0 : ℝ) ≤ 0 then (⊥ : EReal) else ((Real.log 0 : ℝ) : EReal)) = _
  rw [if_pos le_rfl]

/-- The clipped exponent of a number at least zero, in terms of the field found. -/
theorem expOf_eq (v : EReal) (hv : 0 ≤ v) (e : ℕ) (h : Found v 0 e) :
    expOf v = ((((min e 246 : ℕ) : ℤ) - 126 : ℤ) : ℝ) := by
  obtain ⟨-, he, lo, hi⟩ := h
  norm_num at he hi
  have hl2 : (0 : ℝ) < Real.log 2 := Real.log_pos (by norm_num)
  have hlog2 : Ideal.log ((2 : ℝ) : EReal) = ((Real.log 2 : ℝ) : EReal) := log_pos_coe 2 (by norm_num)
  have hne : ((Real.log 2 : ℝ) : EReal) ≠ 0 := by
    intro h; exact hl2.ne' (by exact_mod_cast h)
  have hinv : (0 : ℝ) < (Real.log 2)⁻¹ := inv_pos.mpr hl2
  unfold expOf
  rw [hlog2, Ideal.div, if_neg hne, ← EReal.coe_inv]
  induction v with
  | bot => simp at hv
  | top =>
    have h255 : e = 255 := by
      rcases hi with h | h
      · omega
      · simp at h
    subst h255
    rw [show Ideal.log ⊤ = ⊤ from rfl, EReal.top_mul_coe_of_pos hinv, show Ideal.liftRound Int.floor ⊤ = ⊤ from rfl,
      EReal.top_add_of_ne_bot (by exact_mod_cast EReal.coe_ne_bot 1), max_eq_right le_top, min_eq_left le_top]
    norm_num
  | coe r =>
    have hr : 0 ≤ r := by exact_mod_cast hv
    rcases hr.eq_or_lt with rfl | hr
    · have h0 : e = 0 := by
        by_contra hne0
        rcases Nat.lt_or_ge e 255 with h254 | h255
        · rw [bin_normal e (by omega) (by omega)] at lo
          have : (2 : ℝ) ^ ((e : ℤ) - 127) ≤ 0 := by exact_mod_cast lo
          exact absurd this (not_le.mpr (by positivity))
        · rw [show e = 255 by omega, bin_top] at lo
          exact absurd lo (not_le.mpr (EReal.coe_lt_top _))
      subst h0
      rw [log_zero, EReal.bot_mul_coe_of_pos hinv, show Ideal.liftRound Int.floor ⊥ = ⊥ from rfl, EReal.bot_add,
        max_eq_left bot_le, min_eq_right (by exact_mod_cast (by norm_num : (-126 : ℝ) ≤ 120))]
      norm_num
    · rw [log_pos_coe r hr, ← EReal.coe_mul, ← div_eq_mul_inv,
        show Ideal.liftRound Int.floor ((Real.log r / Real.log 2 : ℝ) : EReal)
          = (((⌊Real.log r / Real.log 2⌋ : ℤ) : ℝ) : EReal) from rfl]
      generalize hn : ⌊Real.log r / Real.log 2⌋ = n
      have pow_le : ∀ k : ℤ, (2 : ℝ) ^ k ≤ r ↔ k ≤ n := fun k => by
        rw [← hn, Int.le_floor, le_div_iff₀ hl2, ← Real.log_zpow, Real.log_le_log_iff (by positivity) hr]
      have key : min 120 (max (-126) (n + 1)) = ((min e 246 : ℕ) : ℤ) - 126 := by
        have hle : ∀ k : ℤ, (2 : ℝ) ^ k ≤ r → k ≤ n := fun k hk => (pow_le k).mp hk
        have hlt : ∀ k : ℤ, r < (2 : ℝ) ^ k → n < k := fun k hk =>
          not_le.mp fun h => not_lt.mpr ((pow_le k).mpr h) hk
        have e254 : e ≤ 254 := by
          by_contra hc
          rw [show e = 255 by omega, bin_top] at lo
          exact absurd lo (not_le.mpr (EReal.coe_lt_top _))
        have lo' : e = 0 ∨ (e : ℤ) - 127 ≤ n := by
          rcases Nat.eq_zero_or_pos e with h | h
          · exact Or.inl h
          · rw [bin_normal e h e254] at lo
            exact Or.inr (hle _ (by exact_mod_cast lo))
        have hi' : e = 254 ∨ n < (e : ℤ) - 126 := by
          rcases hi with h | h
          · omega
          · rcases Nat.lt_or_ge e 254 with h' | h'
            · rw [bin_normal (e + 1) (by omega) (by omega)] at h
              have := hlt _ (show r < (2 : ℝ) ^ (((e + 1 : ℕ) : ℤ) - 127) by exact_mod_cast h)
              right; push_cast at this; omega
            · left; omega
        omega
      rw [← key]
      have mono : Monotone (fun z : ℤ => ((z : ℝ) : EReal)) := fun a b h => by
        show ((a : ℝ) : EReal) ≤ ((b : ℝ) : EReal)
        exact_mod_cast h
      refine Eq.trans ?_ (mono.map_min (a := 120) (b := max (-126) (n + 1))).symm
      rw [mono.map_max]
      push_cast
      rfl

/-- THE SCALE: the bit search's power of two is two to the clipped exponent. -/
theorem scaleOf_eq (v : EReal) (hv : 0 ≤ v) : scaleOf v = Ideal.exp2 (expOf v) := by
  obtain ⟨e, hf, h⟩ := field_eq v hv
  rw [expOf_eq v hv e h]
  unfold scaleOf
  rw [hf, addi_word ⟨min e 246, by omega⟩]
  have hb := bin_normal (min e 246 + 1) (by omega) (by omega)
  unfold bin at hb
  rw [hb, Ideal.exp2_coe]
  congr 1
  show _ = (2 : ℝ) ^ ((_ : ℤ) : ℝ)
  rw [Real.rpow_intCast]
  congr 1
  push_cast; omega

/-- THE INVERSE likewise, at the exponent negated. -/
theorem invOf_eq (v : EReal) (hv : 0 ≤ v) : invOf v = Ideal.exp2 (0 - expOf v) := by
  obtain ⟨e, hf, h⟩ := field_eq v hv
  rw [expOf_eq v hv e h]
  unfold invOf
  rw [hf, subi_word ⟨min e 246, by omega⟩]
  have hb := bin_normal (253 - min e 246) (by omega) (by omega)
  unfold bin at hb
  rw [hb, zero_sub, ← EReal.coe_neg, Ideal.exp2_coe]
  congr 1
  show _ = (2 : ℝ) ^ (-((_ : ℤ) : ℝ))
  rw [← Int.cast_neg, Real.rpow_intCast]
  congr 1
  omega

/-- Two to the clipped exponent is a real number. -/
theorem exp2_expOf_real (v : EReal) (hv : 0 ≤ v) : ∃ r : ℝ, Ideal.exp2 (0 - expOf v) = r := by
  obtain ⟨e, -, h⟩ := field_eq v hv
  rw [expOf_eq v hv e h, zero_sub, ← EReal.coe_neg, Ideal.exp2_coe]
  exact ⟨_, rfl⟩

end Cert.Quantise
-- ==== Proof.Quantise.lean ====
/-
  Quantising one number of a group of 128: the group's greatest magnitude, its power-of-two scale and the code, as the
  reference states them; and that the kernel's bit search gives the same scale and the same code.
-/
module

public import proofs.«01_k».proof.Proof.Scale

@[expose] public section

noncomputable section

open Idealize.ShloMosaic

namespace Cert.Quantise

/-- The greatest magnitude of a group. -/
def amax (f : Fin 128 → EReal) : EReal :=
  Finset.univ.fold max (Ideal.ofBits .f32 4286578688#32) fun k => (FloatOps.absf (F := Ideal) (φ := .f32) (f k) : EReal)

/-- The group's exponent: 0 for a group of zeros. -/
def expo (a : EReal) : EReal := if a = 0 then 0 else expOf (a * Ideal.ofBits .f32 991054117#32)

/-- The group's scale. -/
def scale (a : EReal) : EReal := Ideal.exp2 (expo a)

/-- The code of a number of a group: divided by the scale and cut at ±448. -/
def code (y a : EReal) : EReal :=
  min (Ideal.ofBits .f32 1138753536#32) (max (Ideal.ofBits .f32 3286237184#32) (y * Ideal.exp2 (0 - expo a)))

/-- The largest magnitude of a group is at least the magnitude of each member. -/
theorem le_amax (f : Fin 128 → EReal) (k : Fin 128) : max (f k) (-f k) ≤ amax f := by
  unfold amax
  rw [Finset.le_fold_max]
  exact Or.inr ⟨k, Finset.mem_univ _, le_rfl⟩

/-- A magnitude is not negative. -/
theorem abs_nonneg' (x : EReal) : 0 ≤ max x (-x) := by
  rcases le_total 0 x with h | h
  · exact le_max_of_le_left h
  · exact le_max_of_le_right (by simpa using EReal.neg_le_neg_iff.mpr h)

/-- A group's greatest magnitude is not negative. -/
theorem amax_nonneg (f : Fin 128 → EReal) : 0 ≤ amax f := (abs_nonneg' (f 0)).trans (le_amax f 0)

/-- In a group of greatest magnitude zero every number is zero. -/
theorem eq_zero_of_amax (f : Fin 128 → EReal) (k : Fin 128) (h : amax f = 0) : f k = 0 := by
  have h1 := (le_max_left (f k) (-f k)).trans (le_amax f k)
  have h2 := (le_max_right (f k) (-f k)).trans (le_amax f k)
  rw [h] at h1 h2
  refine le_antisymm h1 ?_
  have := EReal.neg_le_neg_iff.mpr h2
  simpa using this

/-- The constant 1/448, as rounded to f32, is not negative. -/
theorem recip_nonneg : 0 ≤ Ideal.ofBits .f32 991054117#32 := by
  have h1 : ((991054117#32 : BitVec 32).extractLsb' 31 1 == 1#1) = false := by decide
  have h2 : ((991054117#32 : BitVec 32).extractLsb' 23 8).toNat = 118 := by decide
  simp only [Ideal.ofBits, Ideal.ieee, Nat.reduceAdd, h1, h2]
  rw [if_neg (by norm_num), if_neg (by norm_num)]
  simp only [Bool.false_eq_true, if_false]
  exact EReal.coe_nonneg.mpr (by positivity)

/-- Two to the power zero is one. -/
theorem exp2_zero : Ideal.exp2 0 = 1 := by
  rw [← EReal.coe_zero, Ideal.exp2_coe]
  norm_num

/-- THE KERNEL'S SCALE of a group is the reference's. -/
theorem kscale_eq (f : Fin 128 → EReal) :
    (if amax f = 0 then (1 : EReal) else Ideal.ofBits .f32
      (IntOp.addi (field (amax f * Ideal.ofBits .f32 991054117#32)) 8388608#32)) = scale (amax f) := by
  unfold scale expo
  split
  · exact exp2_zero.symm
  · exact scaleOf_eq _ (mul_nonneg (amax_nonneg f) recip_nonneg)

/-- THE KERNEL'S CODE of a number of the group is the reference's. -/
theorem kcode_eq (f : Fin 128 → EReal) (k : Fin 128) :
    min (Ideal.ofBits .f32 1138753536#32) (max (Ideal.ofBits .f32 3286237184#32) (f k * Ideal.ofBits .f32
      (IntOp.subi 2122317824#32 (field (amax f * Ideal.ofBits .f32 991054117#32))))) = code (f k) (amax f) := by
  unfold code expo
  split
  · next h => rw [eq_zero_of_amax f k h, zero_mul, zero_mul]
  · rw [show Ideal.ofBits .f32 (IntOp.subi 2122317824#32 (field (amax f * Ideal.ofBits .f32 991054117#32)))
      = invOf (amax f * Ideal.ofBits .f32 991054117#32) from rfl,
      invOf_eq _ (mul_nonneg (amax_nonneg f) recip_nonneg)]

/-- The word of the constant 120. -/
theorem word_120 : Ideal.ofBits .f32 1123024896#32 = ((120 : ℝ) : EReal) := by
  have h1 : ((1123024896#32 : BitVec 32).extractLsb' 31 1 == 1#1) = false := by decide
  have h2 : ((1123024896#32 : BitVec 32).extractLsb' 23 8).toNat = 133 := by decide
  have h3 : ((1123024896#32 : BitVec 32).extractLsb' 0 23).toNat = 7340032 := by decide
  simp only [Ideal.ofBits, Ideal.ieee, Nat.reduceAdd, h1, h2, h3]
  rw [if_neg (by norm_num), if_neg (by norm_num)]
  congr 1; norm_num

/-- The word of the constant -126. -/
theorem word_neg126 : Ideal.ofBits .f32 3271294976#32 = ((-126 : ℝ) : EReal) := by
  have h1 : ((3271294976#32 : BitVec 32).extractLsb' 31 1 == 1#1) = true := by decide
  have h2 : ((3271294976#32 : BitVec 32).extractLsb' 23 8).toNat = 133 := by decide
  have h3 : ((3271294976#32 : BitVec 32).extractLsb' 0 23).toNat = 8126464 := by decide
  simp only [Ideal.ofBits, Ideal.ieee, Nat.reduceAdd, h1, h2, h3]
  rw [if_neg (by norm_num), if_neg (by norm_num)]
  congr 1; norm_num

/-- The word of the constant 2. -/
theorem word_2 : Ideal.ofBits .f32 1073741824#32 = ((2 : ℝ) : EReal) := by
  have h1 : ((1073741824#32 : BitVec 32).extractLsb' 31 1 == 1#1) = false := by decide
  have h2 : ((1073741824#32 : BitVec 32).extractLsb' 23 8).toNat = 128 := by decide
  have h3 : ((1073741824#32 : BitVec 32).extractLsb' 0 23).toNat = 0 := by decide
  simp only [Ideal.ofBits, Ideal.ieee, Nat.reduceAdd, h1, h2, h3]
  rw [if_neg (by norm_num), if_neg (by norm_num)]
  congr 1; norm_num

/-- The reference's exponent, as its printed words read it. -/
theorem expo_words (a : EReal) :
    (if a = 0 then (0 : EReal) else min (Ideal.ofBits .f32 1123024896#32) (max (Ideal.ofBits .f32 3271294976#32)
      (Ideal.liftRound Int.floor (Ideal.div (Ideal.log (a * Ideal.ofBits .f32 991054117#32))
        (Ideal.log (Ideal.ofBits .f32 1073741824#32))) + 1))) = expo a := by
  rw [word_120, word_neg126, word_2]; rfl

/-! ## The five results, from an array `f` of 1536 rows and 3584 columns -/

variable (f : Fin 1536 → Fin 3584 → EReal)

/-- The greatest magnitude of row `m` over the 128 columns of group `g`. -/
def rowA (m : Fin 1536) (g : Fin 28) : EReal :=
  amax fun k => f m (⟨g.val * 128 + k.val, by omega⟩ : Fin 3584)

/-- The greatest magnitude of column `n` over the 128 rows of half `r` of chunk `b`. -/
def colA (b : Fin 6) (r : Fin 2) (n : Fin 3584) : EReal :=
  amax fun k => f (⟨b.val * 256 + r.val * 128 + k.val, by omega⟩ : Fin 1536) n

/-- The code of an entry, quantised along its row. -/
def codeAt (m : Fin 1536) (n : Fin 3584) : EReal := code (f m n) (rowA f m ⟨n.val / 128, by omega⟩)

/-- The entry rebuilt from its code and scale. -/
def wideAt (m : Fin 1536) (n : Fin 3584) : EReal := codeAt f m n * scale (rowA f m ⟨n.val / 128, by omega⟩)

/-- The code of an entry of chunk `b`, quantised along its column. -/
def codeTAt (b : Fin 6) (y : Fin 256) (n : Fin 3584) : EReal :=
  code (f ⟨b.val * 256 + y.val, by omega⟩ n) (colA f b ⟨y.val / 128, by omega⟩ n)

end Cert.Quantise
-- ==== Proof.Tile.lean ====
/-
  One 128x128 tile of the kernel's block: one name for each array it computes, as functions of the tile of `h`, and
  what each holds at an index.
-/
module

public import proofs.«01_k».proof.Proof.Gen.KernelIdeal.Skeleton
public import proofs.«01_k».proof.Proof.Quantise
public import Idealize.ShloMosaic.Lib.Pointwise

@[expose] public section

noncomputable section

open Idealize.ShloMosaic Idealize.ShloMosaic.TcCoe Idealize.SL.Sem

namespace Cert.KernelIdeal.Tile

open Cert.KernelIdeal Cert.KernelIdeal.Gen Cert.Quantise

/-- One step of the bit search, on a whole array. -/
def stepV {S : Shape} (v : FVec Ideal S .f32) (k : BitVec 32) (b : IVec S 32) : IVec S 32 :=
  select (cmpf .oge v (bitcastToFloat .f32 (ori b (broadcast S k)))) (ori b (broadcast S k)) b

/-- The exponent field of each number of an array. -/
def fieldV {S : Shape} (v : FVec Ideal S .f32) : IVec S 32 :=
  minui (stepV v 8388608#32 (stepV v 16777216#32 (stepV v 33554432#32 (stepV v 67108864#32
    (stepV v 134217728#32 (stepV v 268435456#32 (stepV v 536870912#32 (stepV v 1073741824#32
      (broadcast S 0#32))))))))) (broadcast S 2063597568#32)

/-- One step of the search, at one place of an array. -/
theorem stepV_apply {S : Shape} (v : FVec Ideal S .f32) (k : BitVec 32) (b : IVec S 32) (i : S.Idx) :
    stepV v k b i = step (v i) k (b i) := rfl

/-- The exponent field found by the search, at one place of an array. -/
theorem fieldV_apply {S : Shape} (v : FVec Ideal S .f32) (i : S.Idx) : fieldV v i = field (v i) := by
  unfold fieldV field
  show IntOp.minui (stepV _ _ _ i) _ = _
  simp only [stepV_apply]
  rfl

/-- The scale of each group, from the array of the groups' greatest magnitudes. -/
def scaleV {S : Shape} (amax : FVec Ideal S .f32) : FVec Ideal S .f32 :=
  select (cmpf .oeq amax (broadcast S (Scalar.ofBits .f32 0x00000000#32 : Ideal .f32)))
    (broadcast S (Scalar.ofBits .f32 0x3F800000#32 : Ideal .f32))
    (bitcastToFloat .f32 (addi (fieldV (mulf amax (broadcast S (Scalar.ofBits .f32 0x3B124925#32 : Ideal .f32))))
      (broadcast S 8388608#32)))

/-- The inverse of each scale. -/
def invV {S : Shape} (amax : FVec Ideal S .f32) : FVec Ideal S .f32 :=
  bitcastToFloat .f32 (subi (broadcast S 2122317824#32)
    (fieldV (mulf amax (broadcast S (Scalar.ofBits .f32 0x3B124925#32 : Ideal .f32)))))

/-- Each row's greatest magnitude, along the row. -/
def rowMax (h : FVec Ideal S128x128 .f32) : FVec Ideal S128x128 .f32 :=
  broadcastTo S128x128 (shapeCast S128x1 (shapeCast S128x1
    (multiReduction .maximumf [1] S128 (absf h) 0xFF800000#32 reduces_S128x128_S128 (.inl rfl) rfl)
    shapeCasts_S128_S128x1) shapeCasts_S128x1_S128x1) broadcasts_S128x1_S128x128

/-- Each column's greatest magnitude, in eight equal rows. -/
def colMax (h : FVec Ideal S128x128 .f32) : FVec Ideal S8x128 .f32 :=
  broadcastTo S8x128 (shapeCast S1x128 (shapeCast S1x128
    (multiReduction .maximumf [0] S128 (absf h) 0xFF800000#32 reduces_S128x128_S128_2 (.inl rfl) rfl)
    shapeCasts_S128_S1x128) shapeCasts_S1x128_S1x128) broadcasts_S1x128_S8x128

/-- A scaled tile cut at ±448. -/
def clipV (y : FVec Ideal S128x128 .f32) : FVec Ideal S128x128 .f32 :=
  minimumf (broadcast S128x128 (Scalar.ofBits .f32 0x43E00000#32 : Ideal .f32))
    (maximumf (broadcast S128x128 (Scalar.ofBits .f32 0xC3E00000#32 : Ideal .f32)) y)

/-- The codes of a tile quantised along its rows. -/
def codes (h : FVec Ideal S128x128 .f32) : FVec Ideal S128x128 .fp8e4m3 :=
  truncf .fp8e4m3 (clipV (mulf h (invV (rowMax h)))) bitsLt_fp8e4m3_f32

/-- The tile rebuilt from its codes and scales. -/
def wide (h : FVec Ideal S128x128 .f32) : FVec Ideal S128x128 .bf16 :=
  mulf (extf .bf16 (codes h) bitsLt_fp8e4m3_bf16) (truncf .bf16 (scaleV (rowMax h)) bitsLt_bf16_f32)

/-- The codes as stored. -/
def codesOut (h : FVec Ideal S128x128 .f32) : FVec Ideal S1x128x128 .fp8e4m3 :=
  shapeCast S1x128x128 (codes h) shapeCasts_S128x128_S1x128x128

/-- The codes of a tile quantised along its columns, transposed, as stored. -/
def codesTOut (h : FVec Ideal S128x128 .f32) : FVec Ideal S1x128x128 .fp8e4m3 :=
  shapeCast S1x128x128 (truncf .fp8e4m3 (transpose S128x128 [1, 0]
    (clipV (mulf h (broadcastTo S128x128 (extractStridedSlice S1x128 ![0, 0] (invV (colMax h))
      slices_S8x128_o0_0_S1x128) broadcasts_S1x128_S128x128)))
    transposes_S128x128_p1_0_S128x128) bitsLt_fp8e4m3_f32) shapeCasts_S128x128_S1x128x128

/-- The column scales as stored. -/
def scalesTOut (h : FVec Ideal S128x128 .f32) : FVec Ideal S1x1x128 .f32 :=
  shapeCast S1x1x128 (extractStridedSlice S1x128 ![0, 0] (scaleV (colMax h)) slices_S8x128_o0_0_S1x128)
    shapeCasts_S1x128_S1x1x128

/-- The first column of `s0` and the second of `s1`, as two rows. -/
def merge (s0 s1 : FVec Ideal S128x128 .f32) : FVec Ideal S1x1x2x128 .f32 :=
  shapeCast S1x1x2x128 (extractStridedSlice S2x128 ![0, 0] (transpose S128x128 [1, 0]
    (select (cmpi .eq (iota .tc S128x128 32 [1] iota_S128x128_d1_w32) (broadcast S128x128 1#32)) s1
      (select (cmpi .eq (iota .tc S128x128 32 [1] iota_S128x128_d1_w32) (broadcast S128x128 0#32)) s0
        (broadcast S128x128 (Scalar.ofBits .f32 0x00000000#32 : Ideal .f32))))
    transposes_S128x128_p1_0_S128x128) slices_S128x128_o0_0_S2x128) shapeCasts_S2x128_S1x1x2x128

/-- The row scales of two tiles side by side, as stored. -/
def scalesOut (h0 h1 : FVec Ideal S128x128 .f32) : FVec Ideal S1x1x2x128 .f32 :=
  merge (scaleV (rowMax h0)) (scaleV (rowMax h1))

/-- Tile `(r, q)` of a chunk of 256 rows and 256 columns. -/
def tile (ch : FVec Ideal S256x256 .f32) (r q : Fin 2) : FVec Ideal S128x128 .f32 :=
  extractStridedSlice S128x128 ![128 * r.val, 128 * q.val] ch ((by decide : ∀ r q : Fin 2,
    S256x256.Slices ![128 * r.val, 128 * q.val] S128x128) r q)

/-! ## What each holds at an index -/

/-- The 128 x 128 tile cut out of a chunk, at one place. -/
theorem tile_apply (ch : FVec Ideal S256x256 .f32) (r q : Fin 2) (m n : Fin 128) :
    tile ch r q (ix2 m n) = ch (ix2 (⟨128 * r.val + m.val, by omega⟩ : Fin 256) (⟨128 * q.val + n.val, by omega⟩ : Fin 256)) := by
  unfold tile
  exact extractStridedSlice_apply _ _ _ _ _ fun a => by match a with | ⟨0, _⟩ => rfl | ⟨1, _⟩ => rfl

variable (h h0 h1 : FVec Ideal S128x128 .f32)

/-- The row codes of a tile at one place. -/
theorem codes_apply (m n : Fin 128) : codes h (ix2 m n) = code (h (ix2 m n)) (amax fun k => h (ix2 m k)) := by
  pointwise [codes, clipV, rowMax, scaleV, invV, fieldV_apply]
  exact kcode_eq (fun k => h (ix2 m k)) n

/-- The widened row codes of a tile at one place. -/
theorem wide_apply (m n : Fin 128) :
    wide h (ix2 m n) = code (h (ix2 m n)) (amax fun k => h (ix2 m k)) * scale (amax fun k => h (ix2 m k)) := by
  rw [← codes_apply]
  pointwise [wide, rowMax, scaleV, fieldV_apply]
  exact congrArg _ (kscale_eq fun k => h (ix2 m k))

/-- The row codes as stored, at one place. -/
theorem codesOut_apply (z : Fin 1) (m n : Fin 128) :
    codesOut h (ix3 z m n) = code (h (ix2 m n)) (amax fun k => h (ix2 m k)) := by
  rw [← codes_apply]
  pointwise [codesOut]

/-- The column codes as stored, transposed, at one place. -/
theorem codesTOut_apply (z : Fin 1) (n m : Fin 128) :
    codesTOut h (ix3 z n m) = code (h (ix2 m n)) (amax fun k => h (ix2 k n)) := by
  pointwise [codesTOut, clipV, colMax, scaleV, invV, fieldV_apply]
  exact kcode_eq (fun k => h (ix2 k n)) m

/-- The column scales as stored, at one place. -/
theorem scalesTOut_apply (z z' : Fin 1) (n : Fin 128) :
    scalesTOut h (ix3 z z' n) = scale (amax fun k => h (ix2 k n)) := by
  pointwise [scalesTOut, colMax, scaleV, fieldV_apply]
  exact kscale_eq fun k => h (ix2 k n)

/-- The row scales of a tile at one place. -/
theorem rowScale_apply (m n : Fin 128) : scaleV (rowMax h) (ix2 m n) = scale (amax fun k => h (ix2 m k)) := by
  pointwise [rowMax, scaleV, fieldV_apply]
  exact kscale_eq fun k => h (ix2 m k)

/-- The row scales of two tiles, put into lanes 0 and 1 and transposed, at one place. -/
theorem merge_apply (s0 s1 : FVec Ideal S128x128 .f32) (z z' : Fin 1) (q : Fin 2) (m : Fin 128) :
    merge s0 s1 (ix4 z z' q m) = (if q = 0 then s0 else s1) (ix2 m (⟨q.val, by omega⟩ : Fin 128)) := by
  have e : merge s0 s1 (ix4 z z' q m) = Scalar.select (IntOp.cmpi .eq (BitVec.ofNat 32 q.val) 1#32)
      (s1 (ix2 m (⟨q.val, by omega⟩ : Fin 128))) (Scalar.select (IntOp.cmpi .eq (BitVec.ofNat 32 q.val) 0#32)
        (s0 (ix2 m (⟨q.val, by omega⟩ : Fin 128))) (0 : EReal)) := by
    pointwise [merge]
  rw [e]
  clear e
  obtain rfl | rfl : q = 0 ∨ q = 1 := (by decide : ∀ q : Fin 2, q = 0 ∨ q = 1) q
  · rfl
  · rfl

/-- The row scales as stored, at one place. -/
theorem scalesOut_apply (z z' : Fin 1) (q : Fin 2) (m : Fin 128) :
    scalesOut h0 h1 (ix4 z z' q m) = scale (amax fun k => (if q = 0 then h0 else h1) (ix2 m k)) := by
  unfold scalesOut
  rw [merge_apply]
  by_cases hq : q = 0
  · simp only [if_pos hq, rowScale_apply]
  · simp only [if_neg hq, rowScale_apply]

end Cert.KernelIdeal.Tile
-- ==== Proof.Widen.lean ====
/-
  The weights as the body keeps them in its scratch buffers: each entry times the scale of its 128x128 block.
-/
module

public import proofs.«01_k».proof.Proof.Gen.KernelIdeal.Value
public import proofs.«01_k».proof.Proof.Tile
public import Idealize.ShloMosaic.Lib.Pipeline.CanonAppend

@[expose] public section

noncomputable section

open Idealize.ShloMosaic Idealize.ShloMosaic.TcCoe Idealize.SL.Sem

namespace Cert.KernelIdeal.Tile

open Cert.KernelIdeal Cert.KernelIdeal.Gen Cert.Quantise

/-- A list of pieces that agree with `G` and cover the buffer leave `G`. -/
theorem canon_eq_of_pieces {S : Shape} {e : EltTy} (G : S.Idx → Elt Ideal e) (L : List (View.Piece (Elt Ideal) S e))
    (hL : ∀ p ∈ L, ∀ x, p.2 x = G (p.1.emb x)) (hc : ∀ y, ∃ p ∈ L, y ∈ p.1.set) : View.canon L = G :=
  funext fun y => by
    have := View.canon_append_of_pieces G [] L hL y (hc y)
    rwa [List.append_nil] at this

/-- Where the body reads the scale of weight block `(kb, nb)` at grid point `i`. -/
def scaleOff (i : grid0.Coords) (kb : Fin 32) (nb : Fin 2) : Fin 2 → Nat :=
  ![kb.val, (Scalar.indexCast (Scalar.addi (Scalar.muli (BitVec.ofNat 32 (i 0).val) 2#32) (BitVec.ofNat 32 nb.val)) : Index).toNat]

/-- Where the scale of weight block `kb`, `nb` of a grid step lies. -/
theorem scaleOff_eq : ∀ (i : grid0.Coords) (kb : Fin 32) (nb : Fin 2), scaleOff i kb nb = ![kb.val, 2 * (i 0).val + nb.val] := by
  intro i kb nb
  have h : ∀ (i : grid0.Coords) (nb : Fin 2),
      (Scalar.indexCast (Scalar.addi (Scalar.muli (BitVec.ofNat 32 (i 0).val) 2#32) (BitVec.ofNat 32 nb.val)) : Index).toNat
        = 2 * (i 0).val + nb.val := by decide +kernel
  unfold scaleOff
  rw [h]

/-- The place of that scale is inside the scale array. -/
theorem scaleOff_inb (i : grid0.Coords) (kb : Fin 32) (nb : Fin 2) (a : Fin 2) :
    scaleOff i kb nb a + S1x1.size a ≤ S32x28.size a := by
  have hi : (i 0).val < 14 := (i 0).isLt
  rw [scaleOff_eq]
  match a with
  | ⟨0, _⟩ => show kb.val + 1 ≤ 32; omega
  | ⟨1, _⟩ => show 2 * (i 0).val + nb.val + 1 ≤ 28; omega

/-- Block `(kb, nb)` lies in the weight scratch. -/
theorem blockInb (kb : Fin 32) (nb : Fin 2) (a : Fin 2) :
    (![128 * kb.val, 128 * nb.val] : Fin 2 → Nat) a + S128x128.size a ≤ S4096x256.size a := by
  match a with
  | ⟨0, _⟩ => show 128 * kb.val + 128 ≤ 4096; omega
  | ⟨1, _⟩ => show 128 * nb.val + 128 ≤ 256; omega

/-- What the body stores in block `(kb, nb)` of the weight scratch. -/
def valueW (i : grid0.Coords) (args : Memref sig .tc .smem S32x28 .f32) (hs : args.IsWhole)
    (argw : Memref sig .tc .vmem S4096x256 .fp8e4m3) (hw : argw.IsWhole) (s : Vec Ideal S32x28 .f32)
    (w : Vec Ideal S4096x256 .fp8e4m3) (kb : Fin 32) (nb : Fin 2) : FVec Ideal S128x128 .bf16 :=
  shapeCast S128x128 (mulf (extf .bf16 (View.readAt (Elt Ideal) argw.view (Rect.unit (s := S4096x256)
      ![128 * kb.val, 128 * nb.val] S128x128.size (blockInb kb nb)).toLoadRect
      (hw.unread w) : FVec Ideal S128x128 .fp8e4m3) bitsLt_fp8e4m3_bf16)
    (truncf .bf16 (broadcast S128x128 (View.readAt (Elt Ideal) args.view (Rect.unit (s := S32x28) (scaleOff i kb nb) S1x1.size
      (scaleOff_inb i kb nb)).toLoadRect (hs.unread s) (Shape.Idx.first (by decide : 0 < S1x1.numel)) : Ideal .f32) : FVec Ideal S128x128 .f32)
      bitsLt_bf16_f32)) shapeCasts_S128x128_S128x128

/-- A 128x128 block of the weight scratch. -/
def pieceW (i : grid0.Coords) (args : Memref sig .tc .smem S32x28 .f32) (hs : args.IsWhole)
    (argw : Memref sig .tc .vmem S4096x256 .fp8e4m3) (hw : argw.IsWhole) (s : Vec Ideal S32x28 .f32)
    (w : Vec Ideal S4096x256 .fp8e4m3) (kb : Fin 32) (nb : Fin 2) : View.Piece (Elt Ideal) S4096x256 .bf16 :=
  ⟨Rect.unit ![128 * kb.val, 128 * nb.val] S128x128.size (blockInb kb nb), valueW i args hs argw hw s w kb nb⟩

/-- The blocks, last first. -/
def blocksW {α : Type} (f : Fin 32 → Fin 2 → α) : List α :=
  [31, 30, 29, 28, 27, 26, 25, 24, 23, 22, 21, 20, 19, 18, 17, 16, 15, 14, 13, 12, 11, 10, 9, 8, 7, 6, 5, 4, 3, 2, 1, 0].flatMap
    fun kb => [f kb 1, f kb 0]

/-- A member of the list of weight blocks is the block of some row and column block. -/
theorem mem_blocksW {α : Type} (f : Fin 32 → Fin 2 → α) (p : α) (h : p ∈ blocksW f) : ∃ kb nb, p = f kb nb := by
  unfold blocksW at h
  obtain ⟨kb, -, h⟩ := List.mem_flatMap.mp h
  simp only [List.mem_cons, List.not_mem_nil, or_false] at h
  rcases h with h | h
  · exact ⟨kb, 1, h⟩
  · exact ⟨kb, 0, h⟩

/-- The weight block times its scales. -/
def widened (i : grid0.Coords) (s : Vec Ideal S32x28 .f32) (w : Vec Ideal S4096x256 .fp8e4m3) : FVec Ideal S4096x256 .bf16 :=
  fun j => (w j : EReal) * (s (ix2 (⟨(j 0).val / 128, by have : (j 0).val < 4096 := (j 0).isLt; omega⟩ : Fin 32)
    (⟨2 * (i 0).val + (j 1).val / 128, by have : (i 0).val < 14 := (i 0).isLt; have : (j 1).val < 256 := (j 1).isLt; omega⟩ : Fin 28)) : EReal)

variable (c : Dev nD) (i : grid0.Coords) (arg1 : Memref sig .tc .smem S32x28 .f32) (harg1 : arg1.IsWhole)
  (arg2 : Memref sig .tc .smem S32x28 .f32) (harg2 : arg2.IsWhole)
  (arg4 : Memref sig .tc .vmem S4096x256 .fp8e4m3) (harg4 : arg4.IsWhole)
  (arg5 : Memref sig .tc .vmem S4096x256 .fp8e4m3) (harg5 : arg5.IsWhole)
  (arg11 : Memref sig .tc .vmem S4096x256 .bf16) (arg12 : Memref sig .tc .vmem S4096x256 .bf16)
  (x0 x1 : Vec Ideal S32x28 .f32) (x3 x4 : Vec Ideal S4096x256 .fp8e4m3)

/-- Each block of the scratch holds its part of the widened weight. -/
theorem valueW_apply (kb : Fin 32) (nb : Fin 2) (m n : Fin 128) :
    valueW i arg1 harg1 arg4 harg4 x0 x3 kb nb (ix2 m n)
      = widened i x0 x3 (ix2 (⟨128 * kb.val + m.val, by omega⟩ : Fin 4096) (⟨128 * nb.val + n.val, by omega⟩ : Fin 256)) := by
  unfold valueW widened
  rw [View.readAt_eq_ld, harg4.read_unread, View.readAt_eq_ld, harg1.read_unread]
  pointwise
  have e0 : scaleOff i kb nb 0 = kb.val := congrFun (scaleOff_eq i kb nb) 0
  have e1 : scaleOff i kb nb 1 = 2 * (i 0).val + nb.val := congrFun (scaleOff_eq i kb nb) 1
  refine congrArg (fun j => (x3 _ : EReal) * (x0 j : EReal)) ?_
  congr 1 <;> apply Fin.ext
  · show scaleOff i kb nb 0 = (128 * kb.val + m.val) / 128
    omega
  · show scaleOff i kb nb 1 = 2 * (i 0).val + (128 * nb.val + n.val) / 128
    omega

/-- The blocks hold the widened weight. -/
theorem blocksW_eq (p : View.Piece (Elt Ideal) S4096x256 .bf16) (hp : p ∈ blocksW (pieceW i arg1 harg1 arg4 harg4 x0 x3)) :
    ∀ x, p.2 x = widened i x0 x3 (p.1.emb x) := by
  obtain ⟨kb, nb, rfl⟩ := mem_blocksW _ _ hp
  intro x
  obtain ⟨m, n, rfl⟩ : ∃ (m n : Fin 128), x = (ix2 m n : S128x128.Idx) := ⟨x 0, x 1, eq_ix2 (x : S128x128.Idx)⟩
  refine (valueW_apply i arg1 harg1 arg4 harg4 x0 x3 kb nb m n).trans (congrArg _ (funext fun a => Fin.ext ?_))
  match a with
  | ⟨0, _⟩ => show 128 * kb.val + m.val = 128 * kb.val + 1 * m.val; omega
  | ⟨1, _⟩ => show 128 * nb.val + n.val = 128 * nb.val + 1 * n.val; omega

/-- The blocks cover the scratch. -/
theorem blocksW_cover (y : S4096x256.Idx) : ∃ p ∈ blocksW (pieceW i arg1 harg1 arg4 harg4 x0 x3), y ∈ p.1.set :=
  View.cover_of_tiledL (blocksW (pieceW i arg1 harg1 arg4 harg4 x0 x3)) S128x128.size (by sl_kernel_rfl) y

/-- A read of the whole scratch is the widened weight. -/
theorem readCov_blocksW : arg11.view.readCov (blocksW (pieceW i arg1 harg1 arg4 harg4 x0 x3))
      (Rect.unit ![0, 0] S4096x256.size inb_S4096x256_S4096x256_0_0).toLoadRect = widened i x0 x3 := by
  rw [View.readCov_eq_canon', canon_eq_of_pieces (widened i x0 x3) _ (blocksW_eq i arg1 harg1 arg4 harg4 x0 x3)
    (blocksW_cover i arg1 harg1 arg4 harg4 x0 x3)]
  funext j
  refine congrArg _ (funext fun a => Fin.ext ?_)
  match a with
  | ⟨0, _⟩ => show 0 + 1 * (j 0).val = (j 0).val; omega
  | ⟨1, _⟩ => show 0 + 1 * (j 1).val = (j 1).val; omega

/-- The gate weight's scratch is read back over its blocks. -/
theorem scratch_gate_blocks : kernelRun0_A.sl.v1411 (F := Ideal) c i arg1 harg1 arg4 harg4 arg11 x0 x3
    = arg11.view.readCov (blocksW (pieceW i arg1 harg1 arg4 harg4 x0 x3))
      (Rect.unit ![0, 0] S4096x256.size inb_S4096x256_S4096x256_0_0).toLoadRect := by
  sl_kernel_rfl

/-- The gate weight as the body reads it back. -/
theorem scratch_gate : kernelRun0_A.sl.v1411 (F := Ideal) c i arg1 harg1 arg4 harg4 arg11 x0 x3 = widened i x0 x3 := by
  rw [scratch_gate_blocks, readCov_blocksW]

/-- The up weight's scratch is read back over its blocks. -/
theorem scratch_up_blocks : kernelRun0_A.sl.v1413 (F := Ideal) c i arg2 harg2 arg5 harg5 arg12 x1 x4
    = arg12.view.readCov (blocksW (pieceW i arg2 harg2 arg5 harg5 x1 x4))
      (Rect.unit ![0, 0] S4096x256.size inb_S4096x256_S4096x256_0_0).toLoadRect := by
  sl_kernel_rfl

/-- The up weight as the body reads it back. -/
theorem scratch_up : kernelRun0_A.sl.v1413 (F := Ideal) c i arg2 harg2 arg5 harg5 arg12 x1 x4 = widened i x1 x4 := by
  rw [scratch_up_blocks, readCov_blocksW]

end Cert.KernelIdeal.Tile
-- ==== Proof.Pieces.lean ====
/-
  The pieces the body writes into its five output blocks, and what each output block holds when the chunks of `h` the
  pieces are made from are the parts of one array `F`.
-/
module

public import proofs.«01_k».proof.Proof.Widen

@[expose] public section

noncomputable section

open Idealize.ShloMosaic Idealize.ShloMosaic.TcCoe Idealize.SL.Sem

namespace Cert.KernelIdeal.Tile

open Cert.KernelIdeal Cert.KernelIdeal.Gen Cert.Quantise

/-- The tile of batch `b`, row half `r` (and column half `q`) lies inside the block of output 5. -/
theorem inb5 : ∀ (b : Fin 6) (r q : Fin 2), ∀ a, (![256 * b.val + 128 * r.val, 128 * q.val] : Fin 2 → Nat) a + S128x128.size a ≤ S1536x256.size a := by decide

variable (ch : Fin 6 → FVec Ideal S256x256 .f32)

/-- One tile of the rebuilt `h`. -/
def piece5 (b : Fin 6) (r q : Fin 2) : View.Piece (Elt Ideal) S1536x256 .bf16 :=
  ⟨Rect.unit ![256 * b.val + 128 * r.val, 128 * q.val] S128x128.size (inb5 b r q),
    wide (tile (ch b) r q)⟩

/-- The tile of batch `b`, row half `r` (and column half `q`) lies inside the block of output 6. -/
theorem inb6 : ∀ (b : Fin 6) (r q : Fin 2), ∀ a, (![b.val, 128 * r.val, 128 * q.val] : Fin 3 → Nat) a + S1x128x128.size a ≤ S6x256x256.size a := by decide

/-- One tile of the codes by rows. -/
def piece6 (b : Fin 6) (r q : Fin 2) : View.Piece (Elt Ideal) S6x256x256 .fp8e4m3 :=
  ⟨Rect.unit ![b.val, 128 * r.val, 128 * q.val] S1x128x128.size (inb6 b r q),
    codesOut (tile (ch b) r q)⟩

/-- The tile of batch `b`, row half `r` (and column half `q`) lies inside the block of output 7. -/
theorem inb7 : ∀ (b : Fin 6) (r : Fin 2), ∀ a, (![0, b.val, 0, 128 * r.val] : Fin 4 → Nat) a + S1x1x2x128.size a ≤ S1x6x2x256.size a := by decide

/-- The row scales of two tiles side by side. -/
def piece7 (b : Fin 6) (r : Fin 2) : View.Piece (Elt Ideal) S1x6x2x256 .f32 :=
  ⟨Rect.unit ![0, b.val, 0, 128 * r.val] S1x1x2x128.size (inb7 b r),
    scalesOut (tile (ch b) r 0) (tile (ch b) r 1)⟩

/-- The tile of batch `b`, row half `r` (and column half `q`) lies inside the block of output 8. -/
theorem inb8 : ∀ (b : Fin 6) (r q : Fin 2), ∀ a, (![b.val, 128 * q.val, 128 * r.val] : Fin 3 → Nat) a + S1x128x128.size a ≤ S6x256x256.size a := by decide

/-- One tile of the codes by columns. -/
def piece8 (b : Fin 6) (r q : Fin 2) : View.Piece (Elt Ideal) S6x256x256 .fp8e4m3 :=
  ⟨Rect.unit ![b.val, 128 * q.val, 128 * r.val] S1x128x128.size (inb8 b r q),
    codesTOut (tile (ch b) r q)⟩

/-- The tile of batch `b`, row half `r` (and column half `q`) lies inside the block of output 9. -/
theorem inb9 : ∀ (b : Fin 6) (r q : Fin 2), ∀ a, (![b.val, r.val, 128 * q.val] : Fin 3 → Nat) a + S1x1x128.size a ≤ S6x2x256.size a := by decide

/-- The column scales of one tile. -/
def piece9 (b : Fin 6) (r q : Fin 2) : View.Piece (Elt Ideal) S6x2x256 .f32 :=
  ⟨Rect.unit ![b.val, r.val, 128 * q.val] S1x1x128.size (inb9 b r q),
    scalesTOut (tile (ch b) r q)⟩

/-- The tiles of all chunks, last first. -/
def tiles {α : Type} (f : Fin 6 → Fin 2 → Fin 2 → α) : List α :=
  [5, 4, 3, 2, 1, 0].flatMap fun b => [f b 1 1, f b 1 0, f b 0 1, f b 0 0]

/-- The halves of all chunks, last first. -/
def halves {α : Type} (f : Fin 6 → Fin 2 → α) : List α :=
  [5, 4, 3, 2, 1, 0].flatMap fun b => [f b 1, f b 0]

/-- A member of the list of tiles is the tile of some batch, row half and column half. -/
theorem mem_tiles {α : Type} (f : Fin 6 → Fin 2 → Fin 2 → α) (p : α) (h : p ∈ tiles f) : ∃ b r q, p = f b r q := by
  unfold tiles at h
  obtain ⟨b, -, h⟩ := List.mem_flatMap.mp h
  simp only [List.mem_cons, List.not_mem_nil, or_false] at h
  rcases h with h | h | h | h
  · exact ⟨b, 1, 1, h⟩
  · exact ⟨b, 1, 0, h⟩
  · exact ⟨b, 0, 1, h⟩
  · exact ⟨b, 0, 0, h⟩

/-- A member of the list of half sequences is that of some batch and row half. -/
theorem mem_halves {α : Type} (f : Fin 6 → Fin 2 → α) (p : α) (h : p ∈ halves f) : ∃ b r, p = f b r := by
  unfold halves at h
  obtain ⟨b, -, h⟩ := List.mem_flatMap.mp h
  simp only [List.mem_cons, List.not_mem_nil, or_false] at h
  rcases h with h | h
  · exact ⟨b, 1, h⟩
  · exact ⟨b, 0, h⟩

/-! ## The blocks, from the array `F` the chunks are parts of -/

variable (F : Fin 1536 → Fin 3584 → EReal) (I : Fin 14)

/-- The number of a grid point. -/
abbrev gp (i : grid0.Coords) : Fin 14 := i 0

/-- Column `n` of grid point `I`'s block. -/
abbrev col (n : Fin 256) : Fin 3584 := ⟨I.val * 256 + n.val, by omega⟩

/-- Row `m` of chunk `b`. -/
abbrev row (b : Fin 6) (m : Fin 256) : Fin 1536 := ⟨b.val * 256 + m.val, by omega⟩

/-- The block of the rebuilt `h`. -/
def blk5 : S1536x256.Idx → EReal := fun j => wideAt F (j 0) (col I (j 1))
/-- The block of the codes by rows. -/
def blk6 : S6x256x256.Idx → EReal := fun j =>
  codeAt F (⟨(j 0).val * 256 + (j 1).val, by have : (j 0).val < 6 := (j 0).isLt; have : (j 1).val < 256 := (j 1).isLt; omega⟩ : Fin 1536) (col I (j 2))
/-- The block of the row scales. -/
def blk7 : S1x6x2x256.Idx → EReal := fun j =>
  scale (rowA F (⟨(j 1).val * 256 + (j 3).val, by have : (j 1).val < 6 := (j 1).isLt; have : (j 3).val < 256 := (j 3).isLt; omega⟩ : Fin 1536)
    (⟨I.val * 2 + (j 2).val, by have : (j 2).val < 2 := (j 2).isLt; omega⟩ : Fin 28))
/-- The block of the codes by columns. -/
def blk8 : S6x256x256.Idx → EReal := fun j => codeTAt F (j 0) (j 2) (col I (j 1))
/-- The block of the column scales. -/
def blk9 : S6x2x256.Idx → EReal := fun j => scale (colA F (j 0) (j 1) (col I (j 2)))

variable (hch : ∀ (b : Fin 6) (m n : Fin 256), ch b (ix2 m n) = F (row b m) (col I n))

include hch

/-- An entry of a tile is the entry of `F` at its place. -/
theorem tile_F (b : Fin 6) (r q : Fin 2) (m n : Fin 128) (M : Fin 1536) (N : Fin 3584)
    (hM : M.val = b.val * 256 + r.val * 128 + m.val) (hN : N.val = I.val * 256 + q.val * 128 + n.val) :
    tile (ch b) r q (ix2 m n) = F M N := by
  rw [tile_apply, hch]
  congr 1 <;> apply Fin.ext
  · show b.val * 256 + (128 * r.val + m.val) = M.val; omega
  · show I.val * 256 + (128 * q.val + n.val) = N.val; omega

/-- A tile's row is a row group of `F`. -/
theorem row_F (b : Fin 6) (r q : Fin 2) (m : Fin 128) (M : Fin 1536) (g : Fin 28)
    (hM : M.val = b.val * 256 + r.val * 128 + m.val) (hg : g.val = I.val * 2 + q.val) :
    (amax fun k => tile (ch b) r q (ix2 m k)) = rowA F M g :=
  congrArg amax (funext fun k => tile_F ch F I hch b r q m k M _ hM
    (by show g.val * 128 + k.val = I.val * 256 + q.val * 128 + k.val; omega))

/-- A tile's column is a column group of `F`. -/
theorem col_F (b : Fin 6) (r q : Fin 2) (n : Fin 128) (b' : Fin 6) (r' : Fin 2) (N : Fin 3584) (hb : b'.val = b.val)
    (hr : r'.val = r.val) (hN : N.val = I.val * 256 + q.val * 128 + n.val) :
    (amax fun k => tile (ch b) r q (ix2 k n)) = colA F b' r' N := by
  obtain rfl : b' = b := Fin.ext hb
  obtain rfl : r' = r := Fin.ext hr
  exact congrArg amax (funext fun k => tile_F ch F I hch b' r' q k n _ N rfl hN)

/-- The row code of one cell depends only on its place in the array, not on the tile it is computed in. -/
theorem code_F (b : Fin 6) (r q : Fin 2) (m n : Fin 128) (M : Fin 1536) (N : Fin 3584)
    (hM : M.val = b.val * 256 + r.val * 128 + m.val) (hN : N.val = I.val * 256 + q.val * 128 + n.val) :
    code (tile (ch b) r q (ix2 m n)) (amax fun k => tile (ch b) r q (ix2 m k)) = codeAt F M N := by
  rw [tile_F ch F I hch b r q m n M N hM hN,
    row_F ch F I hch b r q m M ⟨N.val / 128, by omega⟩ hM (by show N.val / 128 = _; omega)]
  rfl

/-- Every store into output 5 writes the values of one function of the place in the block. -/
theorem piece5_F (p : View.Piece (Elt Ideal) S1536x256 .bf16) (hp : p ∈ tiles (piece5 ch)) : ∀ x, p.2 x = blk5 F I (p.1.emb x) := by
  obtain ⟨b, r, q, rfl⟩ := mem_tiles _ _ hp
  intro x
  obtain ⟨m, n, rfl⟩ : ∃ (m n : Fin 128), x = (ix2 m n : S128x128.Idx) := ⟨x 0, x 1, eq_ix2 (x : S128x128.Idx)⟩
  have hM : 256 * b.val + 128 * r.val + 1 * m.val = b.val * 256 + r.val * 128 + m.val := by omega
  have hN : I.val * 256 + (128 * q.val + 1 * n.val) = I.val * 256 + q.val * 128 + n.val := by omega
  refine (wide_apply _ m n).trans ?_
  show _ = wideAt F ((piece5 ch b r q).1.emb (ix2 m n) 0) (col I ((piece5 ch b r q).1.emb (ix2 m n) 1))
  unfold wideAt
  exact congrArg₂ (· * ·) (code_F ch F I hch b r q m n _ _ hM hN) (congrArg scale (row_F ch F I hch b r q m _ _ hM
    (by show (I.val * 256 + (128 * q.val + 1 * n.val)) / 128 = _; omega)))

/-- Every store into output 6 writes the values of one function of the place in the block. -/
theorem piece6_F (p : View.Piece (Elt Ideal) S6x256x256 .fp8e4m3) (hp : p ∈ tiles (piece6 ch)) : ∀ x, p.2 x = blk6 F I (p.1.emb x) := by
  obtain ⟨b, r, q, rfl⟩ := mem_tiles _ _ hp
  intro x
  obtain ⟨z, m, n, rfl⟩ : ∃ (z : Fin 1) (m n : Fin 128), x = (ix3 z m n : S1x128x128.Idx) :=
    ⟨x 0, x 1, x 2, eq_ix3 (x : S1x128x128.Idx)⟩
  have hM : (b.val + 1 * z.val) * 256 + (128 * r.val + 1 * m.val) = b.val * 256 + r.val * 128 + m.val := by omega
  have hN : I.val * 256 + (128 * q.val + 1 * n.val) = I.val * 256 + q.val * 128 + n.val := by omega
  exact (codesOut_apply _ z m n).trans (code_F ch F I hch b r q m n _ _ hM hN)

/-- Every store into output 7 writes the values of one function of the place in the block. -/
theorem piece7_F (p : View.Piece (Elt Ideal) S1x6x2x256 .f32) (hp : p ∈ halves (piece7 ch)) : ∀ x, p.2 x = blk7 F I (p.1.emb x) := by
  obtain ⟨b, r, rfl⟩ := mem_halves _ _ hp
  intro x
  obtain ⟨z, z', q, m, rfl⟩ : ∃ (z z' : Fin 1) (q : Fin 2) (m : Fin 128), x = (ix4 z z' q m : S1x1x2x128.Idx) :=
    ⟨x 0, x 1, x 2, x 3, eq_ix4 (x : S1x1x2x128.Idx)⟩
  have hM : (b.val + 1 * z'.val) * 256 + (128 * r.val + 1 * m.val) = b.val * 256 + r.val * 128 + m.val := by omega
  refine (scalesOut_apply _ _ z z' q m).trans ((congrArg scale ?_).trans (congrArg scale (row_F ch F I hch b r q m _ _ hM
    (by show I.val * 2 + (0 + 1 * q.val) = _; omega))))
  obtain rfl | rfl : q = 0 ∨ q = 1 := (by decide : ∀ q : Fin 2, q = 0 ∨ q = 1) q
  · rfl
  · rfl

/-- Every store into output 8 writes the values of one function of the place in the block. -/
theorem piece8_F (p : View.Piece (Elt Ideal) S6x256x256 .fp8e4m3) (hp : p ∈ tiles (piece8 ch)) : ∀ x, p.2 x = blk8 F I (p.1.emb x) := by
  obtain ⟨b, r, q, rfl⟩ := mem_tiles _ _ hp
  intro x
  obtain ⟨z, n, m, rfl⟩ : ∃ (z : Fin 1) (n m : Fin 128), x = (ix3 z n m : S1x128x128.Idx) :=
    ⟨x 0, x 1, x 2, eq_ix3 (x : S1x128x128.Idx)⟩
  have hM : (b.val + 1 * z.val) * 256 + (128 * r.val + 1 * m.val) = b.val * 256 + r.val * 128 + m.val := by omega
  have hN : I.val * 256 + (128 * q.val + 1 * n.val) = I.val * 256 + q.val * 128 + n.val := by omega
  exact (codesTOut_apply _ z n m).trans (congrArg₂ code (tile_F ch F I hch b r q m n _ _ hM hN)
    (col_F ch F I hch b r q n _ _ _ (by show b.val + 1 * z.val = b.val; omega)
      (by show (128 * r.val + 1 * m.val) / 128 = r.val; omega) hN))

/-- Every store into output 9 writes the values of one function of the place in the block. -/
theorem piece9_F (p : View.Piece (Elt Ideal) S6x2x256 .f32) (hp : p ∈ tiles (piece9 ch)) : ∀ x, p.2 x = blk9 F I (p.1.emb x) := by
  obtain ⟨b, r, q, rfl⟩ := mem_tiles _ _ hp
  intro x
  obtain ⟨z, z', n, rfl⟩ : ∃ (z z' : Fin 1) (n : Fin 128), x = (ix3 z z' n : S1x1x128.Idx) :=
    ⟨x 0, x 1, x 2, eq_ix3 (x : S1x1x128.Idx)⟩
  have hN : I.val * 256 + (128 * q.val + 1 * n.val) = I.val * 256 + q.val * 128 + n.val := by omega
  unfold piece9
  dsimp only
  rw [scalesTOut_apply]
  exact (congrArg scale (col_F ch F I hch b r q n _ _ _
    (by show b.val + 1 * z.val = b.val; omega) (by show r.val + 1 * z'.val = r.val; omega) hN))

end Cert.KernelIdeal.Tile
-- ==== Proof.Reference.lean ====
/-
  What the reference computes: `h` entry by entry, and each of its five results in terms of `h`.
-/
module

public import proofs.«01_k».proof.Proof.Gen.ReferenceIdeal.Frame
public import proofs.«01_k».proof.Proof.Quantise
public import Idealize.ShloMosaic.Lib.Pointwise

@[expose] public section

noncomputable section

open Idealize.ShloMosaic Idealize.ShloMosaic.TcCoe Idealize.SL.Sem

namespace Cert.ReferenceIdeal.Read

open Cert.ReferenceIdeal Cert.ReferenceIdeal.Gen Cert.Quantise

/-- One product of the reference: row `m` of `a` against column `n` of the weight, each weight entry times the scale
    of its 128x128 block. -/
def prod (a : Vec Ideal S1536x4096 .bf16) (w : Vec Ideal S4096x3584 .fp8e4m3) (s : Vec Ideal S32x28 .f32)
    (m : Fin 1536) (n : Fin 3584) : EReal :=
  ∑ k : Fin 4096, (a (ix2 m k) : EReal) * ((w (ix2 k n) : EReal)
    * (s (ix2 (⟨k.val / 128, by omega⟩ : Fin 32) (⟨n.val / 128, by omega⟩ : Fin 28)) : EReal))

/-- `h` at row `m`, column `n`: silu of the gate product times the up product. -/
def hAt (a : Vec Ideal S1536x4096 .bf16) (wg wu : Vec Ideal S4096x3584 .fp8e4m3) (sg su : Vec Ideal S32x28 .f32)
    (m : Fin 1536) (n : Fin 3584) : EReal :=
  prod a wg sg m n * Ideal.logistic (prod a wg sg m n) * prod a wu su m n

variable (a : Vec Ideal S1536x4096 .bf16) (wg wu : Vec Ideal S4096x3584 .fp8e4m3) (sg su : Vec Ideal S32x28 .f32)

/-- The reference's `h` is that. -/
theorem h_apply (m : Fin 1536) (n : Fin 3584) : k0_pay4 (F := Ideal) a wg sg wu su (ix2 m n) = hAt a wg wu sg su m n := by
  pointwise [k0_pay4]
  rfl

/-- Each row group's greatest magnitude. -/
def rowMax (h : FVec Ideal S1536x3584 .f32) : FVec Ideal S1536x28 .f32 :=
  multiReduction .maximumf [2] S1536x28 (absf (shapeCast S1536x28x128 h shapeCasts_S1536x3584_S1536x28x128)) 0xFF800000#32
    reduces_S1536x28x128_S1536x28 (.inl rfl) rfl

/-- Each column group's greatest magnitude. -/
def colMax (h : FVec Ideal S1536x3584 .f32) : FVec Ideal S6x2x3584 .f32 :=
  multiReduction .maximumf [2] S6x2x3584 (absf (shapeCast S6x2x128x3584 h shapeCasts_S1536x3584_S6x2x128x3584)) 0xFF800000#32
    reduces_S6x2x128x3584_S6x2x3584 (.inl rfl) rfl

/-- The exponents of an array of groups. -/
def expoV {S : Shape} (mx : FVec Ideal S .f32) : FVec Ideal S .f32 :=
  select (cmpf .oeq mx (broadcast S (Scalar.ofBits .f32 0x00000000#32 : Ideal .f32)))
    (broadcast S (Scalar.ofBits .f32 0x00000000#32 : Ideal .f32))
    (minimumf (broadcast S (Scalar.ofBits .f32 0x42F00000#32 : Ideal .f32))
      (maximumf (broadcast S (Scalar.ofBits .f32 0xC2FC0000#32 : Ideal .f32))
        (addf (floor (divf (log (mulf mx (broadcast S (Scalar.ofBits .f32 0x3B124925#32 : Ideal .f32))))
          (log (broadcast S (Scalar.ofBits .f32 0x40000000#32 : Ideal .f32)))))
          (broadcast S (Scalar.ofBits .f32 0x3F800000#32 : Ideal .f32)))))

/-- The exponents of an array, at one place. -/
theorem expoV_apply {S : Shape} (mx : FVec Ideal S .f32) (i : S.Idx) : expoV mx i = expo (mx i) := by
  rw [← expo_words]
  pointwise [expoV]

/-- `h` as rows and columns. -/
abbrev cells (h : FVec Ideal S1536x3584 .f32) : Fin 1536 → Fin 3584 → EReal := fun m n => h (ix2 m n)

variable (h : FVec Ideal S1536x3584 .f32)

/-- The row maxima at one place: the largest magnitude of 128 neighbours in a row. -/
theorem rowMax_apply (m : Fin 1536) (g : Fin 28) : rowMax h (ix2 m g) = rowA (cells h) m g := by
  pointwise [rowMax]
  rfl

/-- The column maxima at one place: the largest magnitude of 128 neighbours in a column. -/
theorem colMax_apply (b : Fin 6) (r : Fin 2) (n : Fin 3584) : colMax h (ix3 b r n) = colA (cells h) b r n := by
  pointwise [colMax]
  rfl

/-- Two to the power of an array, at one place. -/
theorem exp2V_apply {S : Shape} (e : FVec Ideal S .f32) (i : S.Idx) : exp2 e i = Ideal.exp2 (e i) := rfl

/-- The row scales. -/
def rowScale : FVec Ideal S1536x28 .f32 := exp2 (expoV (rowMax h))

/-- The row scales at one place. -/
theorem rowScale_apply (m : Fin 1536) (g : Fin 28) : rowScale h (ix2 m g) = scale (rowA (cells h) m g) := by
  unfold rowScale scale
  rw [exp2V_apply, expoV_apply, rowMax_apply]

/-- The inverses of an array of scales. -/
def invs {S : Shape} (e : FVec Ideal S .f32) : FVec Ideal S .f32 :=
  exp2 (subf (broadcast S (Scalar.ofBits .f32 0x00000000#32 : Ideal .f32)) e)

/-- The inverse scales of an array of exponents, at one place. -/
theorem invs_apply {S : Shape} (e : FVec Ideal S .f32) (i : S.Idx) : invs e i = Ideal.exp2 (0 - e i) := by
  unfold invs
  rw [exp2V_apply]
  pointwise

/-- The codes of `h` quantised along its rows. -/
def codes : FVec Ideal S1536x28x128 .fp8e4m3 :=
  truncf .fp8e4m3 (minimumf (broadcast S1536x28x128 (Scalar.ofBits .f32 0x43E00000#32 : Ideal .f32))
    (maximumf (broadcast S1536x28x128 (Scalar.ofBits .f32 0xC3E00000#32 : Ideal .f32))
      (mulf (shapeCast S1536x28x128 h shapeCasts_S1536x3584_S1536x28x128)
        (broadcastTo S1536x28x128 (shapeCast S1536x28x1 (invs (expoV (rowMax h))) shapeCasts_S1536x28_S1536x28x1)
          broadcasts_S1536x28x1_S1536x28x128)))) bitsLt_fp8e4m3_f32

/-- The row codes at one place. -/
theorem codes_apply (m : Fin 1536) (g : Fin 28) (k : Fin 128) :
    codes h (ix3 m g k) = code (h (ix2 m (⟨g.val * 128 + k.val, by omega⟩ : Fin 3584))) (rowA (cells h) m g) := by
  pointwise [codes, invs_apply, expoV_apply, rowMax_apply]
  rfl

/-- The first result: `h` rebuilt. -/
def wideOut : FVec Ideal S1536x3584 .bf16 :=
  shapeCast S1536x3584 (mulf (extf .bf16 (codes h) bitsLt_fp8e4m3_bf16)
    (broadcastTo S1536x28x128 (shapeCast S1536x28x1 (truncf .bf16 (rowScale h) bitsLt_bf16_f32)
      shapeCasts_S1536x28_S1536x28x1) broadcasts_S1536x28x1_S1536x28x128)) shapeCasts_S1536x28x128_S1536x3584

/-- The second: the codes. -/
def codesOut : FVec Ideal S6x256x3584 .fp8e4m3 :=
  shapeCast S6x256x3584 (codes h) shapeCasts_S1536x28x128_S6x256x3584

/-- The third: the row scales, transposed. -/
def scalesOut : FVec Ideal S14x6x2x256 .f32 :=
  transpose S14x6x2x256 [2, 0, 3, 1] (shapeCast S6x256x14x2 (rowScale h) shapeCasts_S1536x28_S6x256x14x2)
    transposes_S6x256x14x2_p2_0_3_1_S14x6x2x256

/-- The fourth: the codes of `h` quantised along its columns, transposed. -/
def codesTOut : FVec Ideal S6x3584x256 .fp8e4m3 :=
  truncf .fp8e4m3 (transpose S6x3584x256 [0, 2, 1] (shapeCast S6x256x3584
    (minimumf (broadcast S6x2x128x3584 (Scalar.ofBits .f32 0x43E00000#32 : Ideal .f32))
      (maximumf (broadcast S6x2x128x3584 (Scalar.ofBits .f32 0xC3E00000#32 : Ideal .f32))
        (mulf (shapeCast S6x2x128x3584 h shapeCasts_S1536x3584_S6x2x128x3584)
          (broadcastTo S6x2x128x3584 (shapeCast S6x2x1x3584 (invs (expoV (colMax h)))
            shapeCasts_S6x2x3584_S6x2x1x3584) broadcasts_S6x2x1x3584_S6x2x128x3584))))
    shapeCasts_S6x2x128x3584_S6x256x3584) transposes_S6x256x3584_p0_2_1_S6x3584x256) bitsLt_fp8e4m3_f32

/-- The fifth: the column scales. -/
def scalesTOut : FVec Ideal S6x2x3584 .f32 := exp2 (expoV (colMax h))

/-- The widened row codes at one place. -/
theorem wideOut_apply (m : Fin 1536) (n : Fin 3584) : wideOut h (ix2 m n) = wideAt (cells h) m n := by
  pointwise [wideOut, codes_apply, rowScale_apply]
  simp only [Nat.add_assoc, Nat.div_add_mod']
  rfl

/-- The row codes, as result, at one place. -/
theorem codesOut_apply (b : Fin 6) (y : Fin 256) (n : Fin 3584) :
    codesOut h (ix3 b y n) = codeAt (cells h) (⟨b.val * 256 + y.val, by omega⟩ : Fin 1536) n := by
  pointwise [codesOut, codes_apply, rowScale_apply]
  simp only [Nat.add_assoc, Nat.div_add_mod']
  rfl

/-- The row scales, as result, at one place. -/
theorem scalesOut_apply (i : Fin 14) (b : Fin 6) (q : Fin 2) (y : Fin 256) :
    scalesOut h (ix4 i b q y) = scale (rowA (cells h) (⟨b.val * 256 + y.val, by omega⟩ : Fin 1536)
      (⟨i.val * 2 + q.val, by omega⟩ : Fin 28)) := by
  pointwise [scalesOut, rowScale_apply]

/-- The transposed column codes, as result, at one place. -/
theorem codesTOut_apply (b : Fin 6) (n : Fin 3584) (y : Fin 256) :
    codesTOut h (ix3 b n y) = codeTAt (cells h) b y n := by
  pointwise [codesTOut, invs_apply, expoV_apply, colMax_apply]
  simp only [Nat.add_assoc, Nat.div_add_mod']
  rfl

/-- The column scales, as result, at one place. -/
theorem scalesTOut_apply (b : Fin 6) (r : Fin 2) (n : Fin 3584) :
    scalesTOut h (ix3 b r n) = scale (colA (cells h) b r n) := by
  unfold scalesTOut scale
  rw [exp2V_apply, expoV_apply, colMax_apply]

/-! ## What the body leaves in each result's buffer -/

/-- The reference's `h` as an array. -/
abbrev hArr : FVec Ideal S1536x3584 .f32 := k0_pay4 (F := Ideal) a wg sg wu su

/-- The gated array of the reference, cell by cell. -/
theorem cells_hArr : cells (hArr a wg wu sg su) = hAt a wg wu sg su :=
  funext fun m => funext fun n => h_apply a wg wu sg su m n

/-- Reading the whole array of activations gives that array. -/
theorem ld_a : View.ld a r0_0 = a := View.ld_unit_zero (S := S1536x4096) (by decide) _ _
/-- Reading a whole weight array gives that array. -/
theorem ld_w (w : Vec Ideal S4096x3584 .fp8e4m3) : View.ld w r0_1 = w := View.ld_unit_zero (S := S4096x3584) (by decide) _ _
/-- Reading a whole scale array gives that array. -/
theorem ld_s (s : Vec Ideal S32x28 .f32) : View.ld s r0_2 = s := View.ld_unit_zero (S := S32x28) (by decide) _ _

/-- What the reference stores into output 5, in terms of its gated array. -/
theorem out5_eq : out0_5 (F := Ideal) a wg wu sg su = wideOut (hArr a wg wu sg su) := by
  unfold out0_5
  rw [View.canon_unit_zero (by decide)]
  unfold k0_pay18 k0_pay19 k0_pay20 k0_pay21
  rw [ld_a, ld_w, ld_w, ld_s, ld_s]
  rfl

/-- What the reference stores into output 6, in terms of its gated array. -/
theorem out6_eq : out0_6 (F := Ideal) a wg wu sg su = codesOut (hArr a wg wu sg su) := by
  unfold out0_6
  rw [View.canon_unit_zero (by decide)]
  unfold k0_pay18 k0_pay19 k0_pay20 k0_pay21
  rw [ld_a, ld_w, ld_w, ld_s, ld_s]
  rfl

/-- What the reference stores into output 7, in terms of its gated array. -/
theorem out7_eq : out0_7 (F := Ideal) a wg wu sg su = scalesOut (hArr a wg wu sg su) := by
  unfold out0_7
  rw [View.canon_unit_zero (by decide)]
  unfold k0_pay19 k0_pay20 k0_pay21
  rw [ld_a, ld_w, ld_w, ld_s, ld_s]
  rfl

/-- What the reference stores into output 8, in terms of its gated array. -/
theorem out8_eq : out0_8 (F := Ideal) a wg wu sg su = codesTOut (hArr a wg wu sg su) := by
  unfold out0_8
  rw [View.canon_unit_zero (by decide)]
  unfold k0_pay22 k0_pay23 k0_pay17
  rw [ld_a, ld_w, ld_w, ld_s, ld_s]
  rfl

/-- What the reference stores into output 9, in terms of its gated array. -/
theorem out9_eq : out0_9 (F := Ideal) a wg wu sg su = scalesTOut (hArr a wg wu sg su) := by
  unfold out0_9
  rw [View.canon_unit_zero (by decide)]
  unfold k0_pay22 k0_pay23 k0_pay17
  rw [ld_a, ld_w, ld_w, ld_s, ld_s]
  rfl

/-! ## The five results, entry by entry -/

/-- `h` rebuilt from its codes. -/
def res0 : S1536x3584.Idx → EReal := fun j => wideAt (hAt a wg wu sg su) (j 0) (j 1)
/-- The codes by row groups. -/
def res1 : S6x256x3584.Idx → EReal := fun j =>
  codeAt (hAt a wg wu sg su) (⟨(j 0).val * 256 + (j 1).val, by have : (j 0).val < 6 := (j 0).isLt; have : (j 1).val < 256 := (j 1).isLt; omega⟩ : Fin 1536) (j 2)
/-- The row scales. -/
def res2 : S14x6x2x256.Idx → EReal := fun j =>
  scale (rowA (hAt a wg wu sg su) (⟨(j 1).val * 256 + (j 3).val, by have : (j 1).val < 6 := (j 1).isLt; have : (j 3).val < 256 := (j 3).isLt; omega⟩ : Fin 1536)
    (⟨(j 0).val * 2 + (j 2).val, by have : (j 0).val < 14 := (j 0).isLt; have : (j 2).val < 2 := (j 2).isLt; omega⟩ : Fin 28))
/-- The codes by column groups, transposed. -/
def res3 : S6x3584x256.Idx → EReal := fun j => codeTAt (hAt a wg wu sg su) (j 0) (j 2) (j 1)
/-- The column scales. -/
def res4 : S6x2x3584.Idx → EReal := fun j => scale (colA (hAt a wg wu sg su) (j 0) (j 1) (j 2))

/-- What the reference stores into output 5 is the result stated cell by cell. -/
theorem out5_res : out0_5 (F := Ideal) a wg wu sg su = res0 a wg wu sg su := by
  rw [out5_eq]; funext j
  obtain ⟨m, n, rfl⟩ : ∃ m n, j = ix2 m n := ⟨j 0, j 1, eq_ix2 j⟩
  rw [wideOut_apply, cells_hArr]; rfl
/-- What the reference stores into output 6 is the result stated cell by cell. -/
theorem out6_res : out0_6 (F := Ideal) a wg wu sg su = res1 a wg wu sg su := by
  rw [out6_eq]; funext j
  obtain ⟨b, y, n, rfl⟩ : ∃ b y n, j = ix3 b y n := ⟨j 0, j 1, j 2, eq_ix3 j⟩
  rw [codesOut_apply, cells_hArr]; rfl
/-- What the reference stores into output 7 is the result stated cell by cell. -/
theorem out7_res : out0_7 (F := Ideal) a wg wu sg su = res2 a wg wu sg su := by
  rw [out7_eq]; funext j
  obtain ⟨i, b, q, y, rfl⟩ : ∃ i b q y, j = ix4 i b q y := ⟨j 0, j 1, j 2, j 3, eq_ix4 j⟩
  rw [scalesOut_apply, cells_hArr]; rfl
/-- What the reference stores into output 8 is the result stated cell by cell. -/
theorem out8_res : out0_8 (F := Ideal) a wg wu sg su = res3 a wg wu sg su := by
  rw [out8_eq]; funext j
  obtain ⟨b, y, n, rfl⟩ : ∃ b y n, j = ix3 b y n := ⟨j 0, j 1, j 2, eq_ix3 j⟩
  rw [codesTOut_apply, cells_hArr]; rfl
/-- What the reference stores into output 9 is the result stated cell by cell. -/
theorem out9_res : out0_9 (F := Ideal) a wg wu sg su = res4 a wg wu sg su := by
  rw [out9_eq]; funext j
  obtain ⟨b, y, n, rfl⟩ : ∃ b y n, j = ix3 b y n := ⟨j 0, j 1, j 2, eq_ix3 j⟩
  rw [scalesTOut_apply, cells_hArr]; rfl

end Cert.ReferenceIdeal.Read
-- ==== Proof.Block.lean ====
/-
  What the body leaves in each of its five output blocks: the part of the result that belongs to its grid point.
-/
module

public import proofs.«01_k».proof.Proof.Pieces
public import proofs.«01_k».proof.Proof.Reference

@[expose] public section

noncomputable section

open Idealize.ShloMosaic Idealize.ShloMosaic.TcCoe Idealize.SL.Sem

namespace Cert.KernelIdeal.Tile

open Cert.KernelIdeal Cert.KernelIdeal.Gen Cert.Quantise
open Cert.ReferenceIdeal.Read (hAt prod)

variable (c : Dev nD) (i : grid0.Coords) (arg1 : Memref sig .tc .smem S32x28 .f32) (harg1 : arg1.IsWhole)
  (arg2 : Memref sig .tc .smem S32x28 .f32) (harg2 : arg2.IsWhole)
  (arg3 : Memref sig .tc .vmem S1536x4096 .bf16) (harg3 : arg3.IsWhole)
  (arg4 : Memref sig .tc .vmem S4096x256 .fp8e4m3) (harg4 : arg4.IsWhole)
  (arg5 : Memref sig .tc .vmem S4096x256 .fp8e4m3) (harg5 : arg5.IsWhole)
  (arg6 : Memref sig .tc .vmem S1536x256 .bf16) (h6 : arg6.IsWhole) (arg7 : Memref sig .tc .vmem S6x256x256 .fp8e4m3) (h7 : arg7.IsWhole)
  (arg8 : Memref sig .tc .vmem S1x6x2x256 .f32) (h8 : arg8.IsWhole) (arg9 : Memref sig .tc .vmem S6x256x256 .fp8e4m3) (h9 : arg9.IsWhole)
  (arg10 : Memref sig .tc .vmem S6x2x256 .f32) (h10 : arg10.IsWhole)
  (arg11 : Memref sig .tc .vmem S4096x256 .bf16) (h11 : arg11.IsWhole) (arg12 : Memref sig .tc .vmem S4096x256 .bf16) (h12 : arg12.IsWhole)
  (x0 x1 : Vec Ideal S32x28 .f32) (x2 : Vec Ideal S1536x4096 .bf16) (x3 x4 : Vec Ideal S4096x256 .fp8e4m3)

/-- The rows of batch `b` lie inside the array of activations. -/
theorem inbA : ∀ b : Fin 6, ∀ a, (![256 * b.val, 0] : Fin 2 → Nat) a + S256x4096.size a ≤ S1536x4096.size a := by decide

/-- The chunk of `h` the body computes from the 256 rows at `256 * b` of `a`. -/
def chunk (b : Fin 6) : FVec Ideal S256x256 .f32 :=
  k0_pay155 (View.readAt (Elt Ideal) arg3.view (Rect.unit (s := S1536x4096) ![256 * b.val, 0] S256x4096.size
      (inbA b)).toLoadRect
      (harg3.unread x2))
    (kernelRun0_A.sl.v1411 (F := Ideal) c i arg1 harg1 arg4 harg4 arg11 x0 x3)
    (kernelRun0_A.sl.v1413 (F := Ideal) c i arg2 harg2 arg5 harg5 arg12 x1 x4)

/-- A chunk's entry from its operands. -/
theorem pay155_apply (A : Vec Ideal S256x4096 .bf16) (Wg Wu : Vec Ideal S4096x256 .bf16) (m n : Fin 256) :
    k0_pay155 (F := Ideal) A Wg Wu (ix2 m n)
      = (∑ k : Fin 4096, (A (ix2 m k) : EReal) * (Wg (ix2 k n) : EReal))
        * Ideal.logistic (∑ k : Fin 4096, (A (ix2 m k) : EReal) * (Wg (ix2 k n) : EReal))
        * (∑ k : Fin 4096, (A (ix2 m k) : EReal) * (Wu (ix2 k n) : EReal)) := by
  pointwise [k0_pay155]

/-- The rows of `a` a chunk reads. -/
theorem rows_apply (b : Fin 6) (m : Fin 256) (k : Fin 4096) :
    View.readAt (Elt Ideal) arg3.view (Rect.unit (s := S1536x4096) ![256 * b.val, 0] S256x4096.size (inbA b)).toLoadRect
      (harg3.unread x2) (ix2 m k) = x2 (ix2 (row b m) k) := by
  rw [View.readAt_eq_ld, harg3.read_unread]
  show x2 _ = x2 _
  refine congrArg _ (funext fun a => Fin.ext ?_)
  match a with
  | ⟨0, _⟩ => show 256 * b.val + 1 * m.val = b.val * 256 + m.val; omega
  | ⟨1, _⟩ => show 0 + 1 * k.val = k.val; omega

/-- A product of the kernel is the reference's, when the weight block holds columns `256 * i + n` of the weight. -/
theorem sum_rows (A : Vec Ideal S256x4096 .bf16) (a : Vec Ideal S1536x4096 .bf16) (b : Fin 6)
    (hA : ∀ (m : Fin 256) (k : Fin 4096), A (ix2 m k) = a (ix2 (row b m) k))
    (w : Vec Ideal S4096x3584 .fp8e4m3) (s : Vec Ideal S32x28 .f32) (x : Vec Ideal S4096x256 .fp8e4m3)
    (hx : ∀ (k : Fin 4096) (n : Fin 256), x (ix2 k n) = w (ix2 k (col (gp i) n))) (m n : Fin 256) :
    (∑ k : Fin 4096, (A (ix2 m k) : EReal) * (widened i s x (ix2 k n) : EReal))
      = prod a w s (row b m) (col (gp i) n) := by
  unfold prod
  refine Finset.sum_congr rfl fun k _ => ?_
  rw [hA]
  refine congrArg _ ?_
  show (x (ix2 k n) : EReal) * (s (ix2 (⟨k.val / 128, _⟩ : Fin 32) (⟨2 * (gp i).val + n.val / 128, _⟩ : Fin 28)) : EReal) = _
  rw [hx]
  refine congrArg (fun g : Fin 28 => (w (ix2 k (col (gp i) n)) : EReal) * (s (ix2 (⟨k.val / 128, by omega⟩ : Fin 32) g) : EReal)) (Fin.ext ?_)
  show 2 * (gp i).val + n.val / 128 = ((gp i).val * 256 + n.val) / 128
  omega

variable (wg wu : Vec Ideal S4096x3584 .fp8e4m3)
  (hg : ∀ (k : Fin 4096) (n : Fin 256), x3 (ix2 k n) = wg (ix2 k (col (gp i) n)))
  (hu : ∀ (k : Fin 4096) (n : Fin 256), x4 (ix2 k n) = wu (ix2 k (col (gp i) n)))

include hg hu in
/-- Each chunk is a part of the reference's `h`. -/
theorem chunk_apply (b : Fin 6) (m n : Fin 256) :
    chunk c i arg1 harg1 arg2 harg2 arg3 harg3 arg4 harg4 arg5 harg5 arg11 arg12 x0 x1 x2 x3 x4 b (ix2 m n)
      = hAt x2 wg wu x0 x1 (row b m) (col (gp i) n) := by
  unfold chunk
  rw [pay155_apply, scratch_gate, scratch_up]
  rw [sum_rows i _ x2 b (rows_apply arg3 harg3 x2 b) wg x0 x3 hg, sum_rows i _ x2 b (rows_apply arg3 harg3 x2 b) wu x1 x4 hu]
  rfl

/-- The pieces of output 5. -/
theorem pieces5 : (kernelRun0_A (F := Ideal) c i arg1 harg1 arg2 harg2 arg3 harg3 arg4 harg4 arg5 harg5 arg6 h6 arg7 h7 arg8 h8 arg9 h9 arg10 h10 arg11 h11 arg12 h12 x0 x1 x2 x3 x4).1
    = tiles (piece5 (chunk c i arg1 harg1 arg2 harg2 arg3 harg3 arg4 harg4 arg5 harg5 arg11 arg12 x0 x1 x2 x3 x4)) := by
  sl_kernel_rfl

include hg hu in
/-- Output 5's block is the grid point's part of the result. -/
theorem out5_blk : out0_A_5 (F := Ideal) c i arg1 harg1 arg2 harg2 arg3 harg3 arg4 harg4 arg5 harg5 arg6 h6 arg7 h7 arg8 h8 arg9 h9 arg10 h10 arg11 h11 arg12 h12 x0 x1 x2 x3 x4
    = blk5 (hAt x2 wg wu x0 x1) (gp i) := by
  unfold out0_A_5
  rw [View.read_writes_junk_eq_canon, pieces5]
  refine canon_eq_of_pieces _ _ (piece5_F _ _ _ (chunk_apply c i arg1 harg1 arg2 harg2 arg3 harg3 arg4 harg4 arg5 harg5
    arg11 arg12 x0 x1 x2 x3 x4 wg wu hg hu)) ?_
  rw [← pieces5 c i arg1 harg1 arg2 harg2 arg3 harg3 arg4 harg4 arg5 harg5 arg6 h6 arg7 h7 arg8 h8 arg9 h9 arg10 h10 arg11 h11 arg12 h12]
  exact cover0_A_5 c i arg1 harg1 arg2 harg2 arg3 harg3 arg4 harg4 arg5 harg5 arg6 h6 arg7 h7 arg8 h8 arg9 h9 arg10 h10 arg11 h11 arg12 h12 x0 x1 x2 x3 x4

/-- The pieces of output 6. -/
theorem pieces6 : (kernelRun0_A (F := Ideal) c i arg1 harg1 arg2 harg2 arg3 harg3 arg4 harg4 arg5 harg5 arg6 h6 arg7 h7 arg8 h8 arg9 h9 arg10 h10 arg11 h11 arg12 h12 x0 x1 x2 x3 x4).2.1
    = tiles (piece6 (chunk c i arg1 harg1 arg2 harg2 arg3 harg3 arg4 harg4 arg5 harg5 arg11 arg12 x0 x1 x2 x3 x4)) := by
  sl_kernel_rfl

include hg hu in
/-- Output 6's block is the grid point's part of the result. -/
theorem out6_blk : out0_A_6 (F := Ideal) c i arg1 harg1 arg2 harg2 arg3 harg3 arg4 harg4 arg5 harg5 arg6 h6 arg7 h7 arg8 h8 arg9 h9 arg10 h10 arg11 h11 arg12 h12 x0 x1 x2 x3 x4
    = blk6 (hAt x2 wg wu x0 x1) (gp i) := by
  unfold out0_A_6
  rw [View.read_writes_junk_eq_canon, pieces6]
  refine canon_eq_of_pieces _ _ (piece6_F _ _ _ (chunk_apply c i arg1 harg1 arg2 harg2 arg3 harg3 arg4 harg4 arg5 harg5
    arg11 arg12 x0 x1 x2 x3 x4 wg wu hg hu)) ?_
  rw [← pieces6 c i arg1 harg1 arg2 harg2 arg3 harg3 arg4 harg4 arg5 harg5 arg6 h6 arg7 h7 arg8 h8 arg9 h9 arg10 h10 arg11 h11 arg12 h12]
  exact cover0_A_6 c i arg1 harg1 arg2 harg2 arg3 harg3 arg4 harg4 arg5 harg5 arg6 h6 arg7 h7 arg8 h8 arg9 h9 arg10 h10 arg11 h11 arg12 h12 x0 x1 x2 x3 x4

/-- The pieces of output 7. -/
theorem pieces7 : (kernelRun0_A (F := Ideal) c i arg1 harg1 arg2 harg2 arg3 harg3 arg4 harg4 arg5 harg5 arg6 h6 arg7 h7 arg8 h8 arg9 h9 arg10 h10 arg11 h11 arg12 h12 x0 x1 x2 x3 x4).2.2.1
    = halves (piece7 (chunk c i arg1 harg1 arg2 harg2 arg3 harg3 arg4 harg4 arg5 harg5 arg11 arg12 x0 x1 x2 x3 x4)) := by
  sl_kernel_rfl

include hg hu in
/-- Output 7's block is the grid point's part of the result. -/
theorem out7_blk : out0_A_7 (F := Ideal) c i arg1 harg1 arg2 harg2 arg3 harg3 arg4 harg4 arg5 harg5 arg6 h6 arg7 h7 arg8 h8 arg9 h9 arg10 h10 arg11 h11 arg12 h12 x0 x1 x2 x3 x4
    = blk7 (hAt x2 wg wu x0 x1) (gp i) := by
  unfold out0_A_7
  rw [View.read_writes_junk_eq_canon, pieces7]
  refine canon_eq_of_pieces _ _ (piece7_F _ _ _ (chunk_apply c i arg1 harg1 arg2 harg2 arg3 harg3 arg4 harg4 arg5 harg5
    arg11 arg12 x0 x1 x2 x3 x4 wg wu hg hu)) ?_
  rw [← pieces7 c i arg1 harg1 arg2 harg2 arg3 harg3 arg4 harg4 arg5 harg5 arg6 h6 arg7 h7 arg8 h8 arg9 h9 arg10 h10 arg11 h11 arg12 h12]
  exact cover0_A_7 c i arg1 harg1 arg2 harg2 arg3 harg3 arg4 harg4 arg5 harg5 arg6 h6 arg7 h7 arg8 h8 arg9 h9 arg10 h10 arg11 h11 arg12 h12 x0 x1 x2 x3 x4

/-- The pieces of output 8. -/
theorem pieces8 : (kernelRun0_A (F := Ideal) c i arg1 harg1 arg2 harg2 arg3 harg3 arg4 harg4 arg5 harg5 arg6 h6 arg7 h7 arg8 h8 arg9 h9 arg10 h10 arg11 h11 arg12 h12 x0 x1 x2 x3 x4).2.2.2.1
    = tiles (piece8 (chunk c i arg1 harg1 arg2 harg2 arg3 harg3 arg4 harg4 arg5 harg5 arg11 arg12 x0 x1 x2 x3 x4)) := by
  sl_kernel_rfl

include hg hu in
/-- Output 8's block is the grid point's part of the result. -/
theorem out8_blk : out0_A_8 (F := Ideal) c i arg1 harg1 arg2 harg2 arg3 harg3 arg4 harg4 arg5 harg5 arg6 h6 arg7 h7 arg8 h8 arg9 h9 arg10 h10 arg11 h11 arg12 h12 x0 x1 x2 x3 x4
    = blk8 (hAt x2 wg wu x0 x1) (gp i) := by
  unfold out0_A_8
  rw [View.read_writes_junk_eq_canon, pieces8]
  refine canon_eq_of_pieces _ _ (piece8_F _ _ _ (chunk_apply c i arg1 harg1 arg2 harg2 arg3 harg3 arg4 harg4 arg5 harg5
    arg11 arg12 x0 x1 x2 x3 x4 wg wu hg hu)) ?_
  rw [← pieces8 c i arg1 harg1 arg2 harg2 arg3 harg3 arg4 harg4 arg5 harg5 arg6 h6 arg7 h7 arg8 h8 arg9 h9 arg10 h10 arg11 h11 arg12 h12]
  exact cover0_A_8 c i arg1 harg1 arg2 harg2 arg3 harg3 arg4 harg4 arg5 harg5 arg6 h6 arg7 h7 arg8 h8 arg9 h9 arg10 h10 arg11 h11 arg12 h12 x0 x1 x2 x3 x4

/-- The pieces of output 9. -/
theorem pieces9 : (kernelRun0_A (F := Ideal) c i arg1 harg1 arg2 harg2 arg3 harg3 arg4 harg4 arg5 harg5 arg6 h6 arg7 h7 arg8 h8 arg9 h9 arg10 h10 arg11 h11 arg12 h12 x0 x1 x2 x3 x4).2.2.2.2.1
    = tiles (piece9 (chunk c i arg1 harg1 arg2 harg2 arg3 harg3 arg4 harg4 arg5 harg5 arg11 arg12 x0 x1 x2 x3 x4)) := by
  sl_kernel_rfl

include hg hu in
/-- Output 9's block is the grid point's part of the result. -/
theorem out9_blk : out0_A_9 (F := Ideal) c i arg1 harg1 arg2 harg2 arg3 harg3 arg4 harg4 arg5 harg5 arg6 h6 arg7 h7 arg8 h8 arg9 h9 arg10 h10 arg11 h11 arg12 h12 x0 x1 x2 x3 x4
    = blk9 (hAt x2 wg wu x0 x1) (gp i) := by
  unfold out0_A_9
  rw [View.read_writes_junk_eq_canon, pieces9]
  refine canon_eq_of_pieces _ _ (piece9_F _ _ _ (chunk_apply c i arg1 harg1 arg2 harg2 arg3 harg3 arg4 harg4 arg5 harg5
    arg11 arg12 x0 x1 x2 x3 x4 wg wu hg hu)) ?_
  rw [← pieces9 c i arg1 harg1 arg2 harg2 arg3 harg3 arg4 harg4 arg5 harg5 arg6 h6 arg7 h7 arg8 h8 arg9 h9 arg10 h10 arg11 h11 arg12 h12]
  exact cover0_A_9 c i arg1 harg1 arg2 harg2 arg3 harg3 arg4 harg4 arg5 harg5 arg6 h6 arg7 h7 arg8 h8 arg9 h9 arg10 h10 arg11 h11 arg12 h12 x0 x1 x2 x3 x4

end Cert.KernelIdeal.Tile
-- ==== Proof.KernelRun.lean ====
/-
  The kernel's five result arrays after its run, as functions of the argument arrays.
-/
module

public import proofs.«01_k».proof.Proof.Block

@[expose] public section

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value Cert.KernelIdeal.Tile Cert.Quantise
open Cert.ReferenceIdeal.Read (hAt res0 res1 res2 res3 res4)

/-! ## The blocks are parts of the results -/

section
variable (a : Vec Ideal S1536x4096 .bf16) (wg wu : Vec Ideal S4096x3584 .fp8e4m3) (sg su : Vec Ideal S32x28 .f32) (I : Fin 14)

/-- Output 5: what grid step `I` leaves at a place of its block is the result at that place of the whole array. -/
theorem blk5_res (j : S1536x256.Idx) (J : S1536x3584.Idx) (h0 : (J 0).val = (j 0).val) (h1 : (J 1).val = I.val * 256 + (j 1).val) :
    blk5 (hAt a wg wu sg su) I j = res0 a wg wu sg su J :=
  congrArg₂ (wideAt (hAt a wg wu sg su)) (Fin.ext h0.symm) (Fin.ext h1.symm)

/-- Output 6: what grid step `I` leaves at a place of its block is the result at that place of the whole array. -/
theorem blk6_res (j : S6x256x256.Idx) (J : S6x256x3584.Idx) (h0 : (J 0).val = (j 0).val) (h1 : (J 1).val = (j 1).val)
    (h2 : (J 2).val = I.val * 256 + (j 2).val) : blk6 (hAt a wg wu sg su) I j = res1 a wg wu sg su J :=
  congrArg₂ (codeAt (hAt a wg wu sg su)) (Fin.ext (by show (j 0).val * 256 + (j 1).val = (J 0).val * 256 + (J 1).val; rw [h0, h1]))
    (Fin.ext h2.symm)

/-- Output 7: what grid step `I` leaves at a place of its block is the result at that place of the whole array. -/
theorem blk7_res (j : S1x6x2x256.Idx) (J : S14x6x2x256.Idx) (h0 : (J 0).val = I.val) (h1 : (J 1).val = (j 1).val)
    (h2 : (J 2).val = (j 2).val) (h3 : (J 3).val = (j 3).val) : blk7 (hAt a wg wu sg su) I j = res2 a wg wu sg su J :=
  congrArg scale (congrArg₂ (rowA (hAt a wg wu sg su))
    (Fin.ext (by show (j 1).val * 256 + (j 3).val = (J 1).val * 256 + (J 3).val; rw [h1, h3]))
    (Fin.ext (by show I.val * 2 + (j 2).val = (J 0).val * 2 + (J 2).val; rw [h0, h2])))

/-- Output 8: what grid step `I` leaves at a place of its block is the result at that place of the whole array. -/
theorem blk8_res (j : S6x256x256.Idx) (J : S6x3584x256.Idx) (h0 : (J 0).val = (j 0).val)
    (h1 : (J 1).val = I.val * 256 + (j 1).val) (h2 : (J 2).val = (j 2).val) :
    blk8 (hAt a wg wu sg su) I j = res3 a wg wu sg su J := by
  show codeTAt _ (j 0) (j 2) (col I (j 1)) = codeTAt _ (J 0) (J 2) (J 1)
  rw [show J 0 = j 0 from Fin.ext h0, show J 2 = j 2 from Fin.ext h2, show J 1 = col I (j 1) from Fin.ext h1]

/-- Output 9: what grid step `I` leaves at a place of its block is the result at that place of the whole array. -/
theorem blk9_res (j : S6x2x256.Idx) (J : S6x2x3584.Idx) (h0 : (J 0).val = (j 0).val) (h1 : (J 1).val = (j 1).val)
    (h2 : (J 2).val = I.val * 256 + (j 2).val) : blk9 (hAt a wg wu sg su) I j = res4 a wg wu sg su J := by
  show scale (colA _ (j 0) (j 1) (col I (j 2))) = scale (colA _ (J 0) (J 1) (J 2))
  rw [show J 0 = j 0 from Fin.ext h0, show J 1 = j 1 from Fin.ext h1, show J 2 = col I (j 2) from Fin.ext h2]
end

/-! ## The input blocks -/

variable (m : (ℓ : Loc nD τ sig) → Buf (Elt Ideal) ℓ) (ρ : Dev nD → PrngReg) (c : Dev nD)

/-- The argument arrays. -/
abbrev argA : Vec Ideal S1536x4096 .bf16 := m ((c : Thread nD τ).loc main_arg0)
/-- The gate weight codes, as the memory holds them at the start. -/
abbrev argWg : Vec Ideal S4096x3584 .fp8e4m3 := m ((c : Thread nD τ).loc main_arg1)
/-- The up weight codes, as the memory holds them at the start. -/
abbrev argWu : Vec Ideal S4096x3584 .fp8e4m3 := m ((c : Thread nD τ).loc main_arg2)
/-- The gate weight scales, as the memory holds them at the start. -/
abbrev argSg : Vec Ideal S32x28 .f32 := m ((c : Thread nD τ).loc main_arg3)
/-- The up weight scales, as the memory holds them at the start. -/
abbrev argSu : Vec Ideal S32x28 .f32 := m ((c : Thread nD τ).loc main_arg4)

/-- Where the block of operand 0 starts at each grid step. -/
theorem index0 : ∀ (t : Fin grid0.N) (a : Fin 2), win0_0.index t a * win0_0.size a = 0 := by decide +kernel

/-- Window 0 holds the whole of its array. -/
theorem iblk0 (t : Fin cfg0.N) : (iblk m c 0 t : Vec Ideal S32x28 .f32) = argSg m c := by
  funext j
  unfold iblk
  rw [View.read_apply]
  show V m c main_arg3 _ = m _ _
  unfold V
  congr 1
  funext a
  apply Fin.ext
  show win0_0.index t a * win0_0.size a + 1 * (j a).val = (j a).val
  rw [index0 t a]
  omega

/-- Where the block of operand 1 starts at each grid step. -/
theorem index1 : ∀ (t : Fin grid0.N) (a : Fin 2), win0_1.index t a * win0_1.size a = 0 := by decide +kernel

/-- Window 1 holds the whole of its array. -/
theorem iblk1 (t : Fin cfg0.N) : (iblk m c 1 t : Vec Ideal S32x28 .f32) = argSu m c := by
  funext j
  unfold iblk
  rw [View.read_apply]
  show V m c main_arg4 _ = m _ _
  unfold V
  congr 1
  funext a
  apply Fin.ext
  show win0_1.index t a * win0_1.size a + 1 * (j a).val = (j a).val
  rw [index1 t a]
  omega

/-- Where the block of operand 2 starts at each grid step. -/
theorem index2 : ∀ (t : Fin grid0.N) (a : Fin 2), win0_2.index t a * win0_2.size a = 0 := by decide +kernel

/-- Window 2 holds the whole of its array. -/
theorem iblk2 (t : Fin cfg0.N) : (iblk m c 2 t : Vec Ideal S1536x4096 .bf16) = argA m c := by
  funext j
  unfold iblk
  rw [View.read_apply]
  show V m c main_arg0 _ = m _ _
  unfold V
  congr 1
  funext a
  apply Fin.ext
  show win0_2.index t a * win0_2.size a + 1 * (j a).val = (j a).val
  rw [index2 t a]
  omega

/-- Where the block of operand 3 starts at each grid step. -/
theorem index3 : ∀ t : Fin grid0.N, win0_3.index t 0 * win0_3.size 0 = 0
    ∧ win0_3.index t 1 * win0_3.size 1 = (gp (grid0.coords t)).val * 256 := by decide +kernel

/-- Window 3 holds 256 columns of its weight. -/
theorem iblk3 (t : Fin cfg0.N) (k : Fin 4096) (n : Fin 256) :
    (iblk m c 3 t : Vec Ideal S4096x256 .fp8e4m3) (ix2 k n) = argWg m c (ix2 k (col (gp (grid0.coords t)) n)) := by
  unfold iblk
  rw [View.read_apply]
  show V m c main_arg1 _ = m _ _
  unfold V
  congr 1
  funext a
  apply Fin.ext
  match a with
  | ⟨0, _⟩ => show win0_3.index t 0 * win0_3.size 0 + 1 * k.val = k.val; rw [(index3 t).1]; omega
  | ⟨1, _⟩ => show win0_3.index t 1 * win0_3.size 1 + 1 * n.val = (gp (grid0.coords t)).val * 256 + n.val; rw [(index3 t).2]; omega

/-- Where the block of operand 4 starts at each grid step. -/
theorem index4 : ∀ t : Fin grid0.N, win0_4.index t 0 * win0_4.size 0 = 0
    ∧ win0_4.index t 1 * win0_4.size 1 = (gp (grid0.coords t)).val * 256 := by decide +kernel

/-- Window 4 holds 256 columns of its weight. -/
theorem iblk4 (t : Fin cfg0.N) (k : Fin 4096) (n : Fin 256) :
    (iblk m c 4 t : Vec Ideal S4096x256 .fp8e4m3) (ix2 k n) = argWu m c (ix2 k (col (gp (grid0.coords t)) n)) := by
  unfold iblk
  rw [View.read_apply]
  show V m c main_arg2 _ = m _ _
  unfold V
  congr 1
  funext a
  apply Fin.ext
  match a with
  | ⟨0, _⟩ => show win0_4.index t 0 * win0_4.size 0 + 1 * k.val = k.val; rw [(index4 t).1]; omega
  | ⟨1, _⟩ => show win0_4.index t 1 * win0_4.size 1 + 1 * n.val = (gp (grid0.coords t)).val * 256 + n.val; rw [(index4 t).2]; omega

/-- The reference's `h`, from the kernel's arguments. -/
abbrev hK : Fin 1536 → Fin 3584 → EReal := hAt (argA m c) (argWg m c) (argWu m c) (argSg m c) (argSu m c)

/-- The point that writes column `n`. -/
theorem coords_val : ∀ t : Fin grid0.N, (gp (grid0.coords t)).val = t.val := by decide +kernel

/-! ## The result arrays -/

/-- Where the block of operand 5 starts at each grid step. -/
theorem index5 : ∀ t : Fin grid0.N, win0_5.index t 0 * win0_5.size 0 = 0 ∧ win0_5.index t 1 * win0_5.size 1 = (gp (grid0.coords t)).val * 256 := by decide +kernel

/-- The size of the block of output 5, the same at each grid step. -/
theorem xsize5 : ∀ t : Fin grid0.N, win0_5.xsize (grid0.coords t) 0 = 1536 ∧ win0_5.xsize (grid0.coords t) 1 = 256 := by decide +kernel

/-- Each point writes back its part of result 0. -/
theorem flushed5_res (t : Fin cfg0.N) (hf : (cfg0.win 5).flush t = true) : (dats m 0 c).flushed 5 t
    = ((cfg0.win 5).blk t).view.read (Elt Ideal) (res0 (argA m c) (argWg m c) (argWu m c) (argSg m c) (argSu m c)) := by
  rw [flushed5_A, out5_blk (wg := argWg m c) (wu := argWu m c) (hg := iblk3 m c t) (hu := iblk4 m c t), iblk0, iblk1, iblk2]
  funext j
  rw [View.read_apply]
  obtain ⟨i0, i1⟩ := index5 t
  exact blk5_res _ _ _ _ _ (gp (grid0.coords t)) (j : S1536x256.Idx) _
    (by show win0_5.index t 0 * win0_5.size 0 + 1 * (j 0).val = (j 0).val; rw [i0]; omega)
    (by show win0_5.index t 1 * win0_5.size 1 + 1 * (j 1).val = (gp (grid0.coords t)).val * 256 + (j 1).val; rw [i1]; omega)

/-- Result 0 after the run. -/
theorem final5 : (dats m 0 c).arrAt 5 cfg0.N = res0 (argA m c) (argWg m c) (argWu m c) (argSg m c) (argSu m c) := by
  refine (dats m 0 c).arrAt_eq_of_cover 5 _ (flushed5_res m c) fun i => ?_
  have h0 : (i 0).val < 1536 := (i 0).isLt
  have h1 : (i 1).val < 3584 := (i 1).isLt
  let t : Fin grid0.N := ⟨(i 1).val / 256, by rw [N_0]; omega⟩
  have ht : (gp (grid0.coords t)).val = (i 1).val / 256 := coords_val t
  refine ⟨t, flush0_5 t, ?_⟩
  show i ∈ ((View.whole main_v0_0).slice (win0_5.rect t)).set
  rw [View.set_slice_whole, Rect.mem_set_unit]
  obtain ⟨i0, i1⟩ := index5 t
  obtain ⟨x0, x1⟩ := xsize5 t
  intro a
  match a with
  | ⟨0, _⟩ =>
    show win0_5.index t 0 * win0_5.size 0 ≤ (i 0).val ∧ (i 0).val < win0_5.index t 0 * win0_5.size 0 + win0_5.xsize (grid0.coords t) 0
    rw [i0, x0]; omega
  | ⟨1, _⟩ =>
    show win0_5.index t 1 * win0_5.size 1 ≤ (i 1).val ∧ (i 1).val < win0_5.index t 1 * win0_5.size 1 + win0_5.xsize (grid0.coords t) 1
    rw [i1, x1]; omega

/-- Where the block of operand 6 starts at each grid step. -/
theorem index6 : ∀ t : Fin grid0.N, win0_6.index t 0 * win0_6.size 0 = 0 ∧ win0_6.index t 1 * win0_6.size 1 = 0 ∧ win0_6.index t 2 * win0_6.size 2 = (gp (grid0.coords t)).val * 256 := by decide +kernel

/-- The size of the block of output 6, the same at each grid step. -/
theorem xsize6 : ∀ t : Fin grid0.N, win0_6.xsize (grid0.coords t) 0 = 6 ∧ win0_6.xsize (grid0.coords t) 1 = 256 ∧ win0_6.xsize (grid0.coords t) 2 = 256 := by decide +kernel

/-- Each point writes back its part of result 1. -/
theorem flushed6_res (t : Fin cfg0.N) (hf : (cfg0.win 6).flush t = true) : (dats m 0 c).flushed 6 t
    = ((cfg0.win 6).blk t).view.read (Elt Ideal) (res1 (argA m c) (argWg m c) (argWu m c) (argSg m c) (argSu m c)) := by
  rw [flushed6_A, out6_blk (wg := argWg m c) (wu := argWu m c) (hg := iblk3 m c t) (hu := iblk4 m c t), iblk0, iblk1, iblk2]
  funext j
  rw [View.read_apply]
  obtain ⟨i0, i1, i2⟩ := index6 t
  exact blk6_res _ _ _ _ _ (gp (grid0.coords t)) (j : S6x256x256.Idx) _
    (by show win0_6.index t 0 * win0_6.size 0 + 1 * (j 0).val = (j 0).val; rw [i0]; omega)
    (by show win0_6.index t 1 * win0_6.size 1 + 1 * (j 1).val = (j 1).val; rw [i1]; omega)
    (by show win0_6.index t 2 * win0_6.size 2 + 1 * (j 2).val = (gp (grid0.coords t)).val * 256 + (j 2).val; rw [i2]; omega)

/-- Result 1 after the run. -/
theorem final6 : (dats m 0 c).arrAt 6 cfg0.N = res1 (argA m c) (argWg m c) (argWu m c) (argSg m c) (argSu m c) := by
  refine (dats m 0 c).arrAt_eq_of_cover 6 _ (flushed6_res m c) fun i => ?_
  have h0 : (i 0).val < 6 := (i 0).isLt
  have h1 : (i 1).val < 256 := (i 1).isLt
  have h2 : (i 2).val < 3584 := (i 2).isLt
  let t : Fin grid0.N := ⟨(i 2).val / 256, by rw [N_0]; omega⟩
  have ht : (gp (grid0.coords t)).val = (i 2).val / 256 := coords_val t
  refine ⟨t, flush0_6 t, ?_⟩
  show i ∈ ((View.whole main_v0_1).slice (win0_6.rect t)).set
  rw [View.set_slice_whole, Rect.mem_set_unit]
  obtain ⟨i0, i1, i2⟩ := index6 t
  obtain ⟨x0, x1, x2⟩ := xsize6 t
  intro a
  match a with
  | ⟨0, _⟩ =>
    show win0_6.index t 0 * win0_6.size 0 ≤ (i 0).val ∧ (i 0).val < win0_6.index t 0 * win0_6.size 0 + win0_6.xsize (grid0.coords t) 0
    rw [i0, x0]; omega
  | ⟨1, _⟩ =>
    show win0_6.index t 1 * win0_6.size 1 ≤ (i 1).val ∧ (i 1).val < win0_6.index t 1 * win0_6.size 1 + win0_6.xsize (grid0.coords t) 1
    rw [i1, x1]; omega
  | ⟨2, _⟩ =>
    show win0_6.index t 2 * win0_6.size 2 ≤ (i 2).val ∧ (i 2).val < win0_6.index t 2 * win0_6.size 2 + win0_6.xsize (grid0.coords t) 2
    rw [i2, x2]; omega

/-- Where the block of operand 7 starts at each grid step. -/
theorem index7 : ∀ t : Fin grid0.N, win0_7.index t 0 * win0_7.size 0 = (gp (grid0.coords t)).val * 1 ∧ win0_7.index t 1 * win0_7.size 1 = 0 ∧ win0_7.index t 2 * win0_7.size 2 = 0 ∧ win0_7.index t 3 * win0_7.size 3 = 0 := by decide +kernel

/-- The size of the block of output 7, the same at each grid step. -/
theorem xsize7 : ∀ t : Fin grid0.N, win0_7.xsize (grid0.coords t) 0 = 1 ∧ win0_7.xsize (grid0.coords t) 1 = 6 ∧ win0_7.xsize (grid0.coords t) 2 = 2 ∧ win0_7.xsize (grid0.coords t) 3 = 256 := by decide +kernel

/-- Each point writes back its part of result 2. -/
theorem flushed7_res (t : Fin cfg0.N) (hf : (cfg0.win 7).flush t = true) : (dats m 0 c).flushed 7 t
    = ((cfg0.win 7).blk t).view.read (Elt Ideal) (res2 (argA m c) (argWg m c) (argWu m c) (argSg m c) (argSu m c)) := by
  rw [flushed7_A, out7_blk (wg := argWg m c) (wu := argWu m c) (hg := iblk3 m c t) (hu := iblk4 m c t), iblk0, iblk1, iblk2]
  funext j
  rw [View.read_apply]
  obtain ⟨i0, i1, i2, i3⟩ := index7 t
  exact blk7_res _ _ _ _ _ (gp (grid0.coords t)) (j : S1x6x2x256.Idx) _
    (by show win0_7.index t 0 * win0_7.size 0 + 1 * (j 0).val = (gp (grid0.coords t)).val; rw [i0]; have : (j 0).val < 1 := (j 0).isLt; omega)
    (by show win0_7.index t 1 * win0_7.size 1 + 1 * (j 1).val = (j 1).val; rw [i1]; omega)
    (by show win0_7.index t 2 * win0_7.size 2 + 1 * (j 2).val = (j 2).val; rw [i2]; omega)
    (by show win0_7.index t 3 * win0_7.size 3 + 1 * (j 3).val = (j 3).val; rw [i3]; omega)

/-- Result 2 after the run. -/
theorem final7 : (dats m 0 c).arrAt 7 cfg0.N = res2 (argA m c) (argWg m c) (argWu m c) (argSg m c) (argSu m c) := by
  refine (dats m 0 c).arrAt_eq_of_cover 7 _ (flushed7_res m c) fun i => ?_
  have h0 : (i 0).val < 14 := (i 0).isLt
  have h1 : (i 1).val < 6 := (i 1).isLt
  have h2 : (i 2).val < 2 := (i 2).isLt
  have h3 : (i 3).val < 256 := (i 3).isLt
  let t : Fin grid0.N := ⟨(i 0).val, by rw [N_0]; omega⟩
  have ht : (gp (grid0.coords t)).val = (i 0).val := coords_val t
  refine ⟨t, flush0_7 t, ?_⟩
  show i ∈ ((View.whole main_v0_2).slice (win0_7.rect t)).set
  rw [View.set_slice_whole, Rect.mem_set_unit]
  obtain ⟨i0, i1, i2, i3⟩ := index7 t
  obtain ⟨x0, x1, x2, x3⟩ := xsize7 t
  intro a
  match a with
  | ⟨0, _⟩ =>
    show win0_7.index t 0 * win0_7.size 0 ≤ (i 0).val ∧ (i 0).val < win0_7.index t 0 * win0_7.size 0 + win0_7.xsize (grid0.coords t) 0
    rw [i0, x0]; omega
  | ⟨1, _⟩ =>
    show win0_7.index t 1 * win0_7.size 1 ≤ (i 1).val ∧ (i 1).val < win0_7.index t 1 * win0_7.size 1 + win0_7.xsize (grid0.coords t) 1
    rw [i1, x1]; omega
  | ⟨2, _⟩ =>
    show win0_7.index t 2 * win0_7.size 2 ≤ (i 2).val ∧ (i 2).val < win0_7.index t 2 * win0_7.size 2 + win0_7.xsize (grid0.coords t) 2
    rw [i2, x2]; omega
  | ⟨3, _⟩ =>
    show win0_7.index t 3 * win0_7.size 3 ≤ (i 3).val ∧ (i 3).val < win0_7.index t 3 * win0_7.size 3 + win0_7.xsize (grid0.coords t) 3
    rw [i3, x3]; omega

/-- Where the block of operand 8 starts at each grid step. -/
theorem index8 : ∀ t : Fin grid0.N, win0_8.index t 0 * win0_8.size 0 = 0 ∧ win0_8.index t 1 * win0_8.size 1 = (gp (grid0.coords t)).val * 256 ∧ win0_8.index t 2 * win0_8.size 2 = 0 := by decide +kernel

/-- The size of the block of output 8, the same at each grid step. -/
theorem xsize8 : ∀ t : Fin grid0.N, win0_8.xsize (grid0.coords t) 0 = 6 ∧ win0_8.xsize (grid0.coords t) 1 = 256 ∧ win0_8.xsize (grid0.coords t) 2 = 256 := by decide +kernel

/-- Each point writes back its part of result 3. -/
theorem flushed8_res (t : Fin cfg0.N) (hf : (cfg0.win 8).flush t = true) : (dats m 0 c).flushed 8 t
    = ((cfg0.win 8).blk t).view.read (Elt Ideal) (res3 (argA m c) (argWg m c) (argWu m c) (argSg m c) (argSu m c)) := by
  rw [flushed8_A, out8_blk (wg := argWg m c) (wu := argWu m c) (hg := iblk3 m c t) (hu := iblk4 m c t), iblk0, iblk1, iblk2]
  funext j
  rw [View.read_apply]
  obtain ⟨i0, i1, i2⟩ := index8 t
  exact blk8_res _ _ _ _ _ (gp (grid0.coords t)) (j : S6x256x256.Idx) _
    (by show win0_8.index t 0 * win0_8.size 0 + 1 * (j 0).val = (j 0).val; rw [i0]; omega)
    (by show win0_8.index t 1 * win0_8.size 1 + 1 * (j 1).val = (gp (grid0.coords t)).val * 256 + (j 1).val; rw [i1]; omega)
    (by show win0_8.index t 2 * win0_8.size 2 + 1 * (j 2).val = (j 2).val; rw [i2]; omega)

/-- Result 3 after the run. -/
theorem final8 : (dats m 0 c).arrAt 8 cfg0.N = res3 (argA m c) (argWg m c) (argWu m c) (argSg m c) (argSu m c) := by
  refine (dats m 0 c).arrAt_eq_of_cover 8 _ (flushed8_res m c) fun i => ?_
  have h0 : (i 0).val < 6 := (i 0).isLt
  have h1 : (i 1).val < 3584 := (i 1).isLt
  have h2 : (i 2).val < 256 := (i 2).isLt
  let t : Fin grid0.N := ⟨(i 1).val / 256, by rw [N_0]; omega⟩
  have ht : (gp (grid0.coords t)).val = (i 1).val / 256 := coords_val t
  refine ⟨t, flush0_8 t, ?_⟩
  show i ∈ ((View.whole main_v0_3).slice (win0_8.rect t)).set
  rw [View.set_slice_whole, Rect.mem_set_unit]
  obtain ⟨i0, i1, i2⟩ := index8 t
  obtain ⟨x0, x1, x2⟩ := xsize8 t
  intro a
  match a with
  | ⟨0, _⟩ =>
    show win0_8.index t 0 * win0_8.size 0 ≤ (i 0).val ∧ (i 0).val < win0_8.index t 0 * win0_8.size 0 + win0_8.xsize (grid0.coords t) 0
    rw [i0, x0]; omega
  | ⟨1, _⟩ =>
    show win0_8.index t 1 * win0_8.size 1 ≤ (i 1).val ∧ (i 1).val < win0_8.index t 1 * win0_8.size 1 + win0_8.xsize (grid0.coords t) 1
    rw [i1, x1]; omega
  | ⟨2, _⟩ =>
    show win0_8.index t 2 * win0_8.size 2 ≤ (i 2).val ∧ (i 2).val < win0_8.index t 2 * win0_8.size 2 + win0_8.xsize (grid0.coords t) 2
    rw [i2, x2]; omega

/-- Where the block of operand 9 starts at each grid step. -/
theorem index9 : ∀ t : Fin grid0.N, win0_9.index t 0 * win0_9.size 0 = 0 ∧ win0_9.index t 1 * win0_9.size 1 = 0 ∧ win0_9.index t 2 * win0_9.size 2 = (gp (grid0.coords t)).val * 256 := by decide +kernel

/-- The size of the block of output 9, the same at each grid step. -/
theorem xsize9 : ∀ t : Fin grid0.N, win0_9.xsize (grid0.coords t) 0 = 6 ∧ win0_9.xsize (grid0.coords t) 1 = 2 ∧ win0_9.xsize (grid0.coords t) 2 = 256 := by decide +kernel

/-- Each point writes back its part of result 4. -/
theorem flushed9_res (t : Fin cfg0.N) (hf : (cfg0.win 9).flush t = true) : (dats m 0 c).flushed 9 t
    = ((cfg0.win 9).blk t).view.read (Elt Ideal) (res4 (argA m c) (argWg m c) (argWu m c) (argSg m c) (argSu m c)) := by
  rw [flushed9_A, out9_blk (wg := argWg m c) (wu := argWu m c) (hg := iblk3 m c t) (hu := iblk4 m c t), iblk0, iblk1, iblk2]
  funext j
  rw [View.read_apply]
  obtain ⟨i0, i1, i2⟩ := index9 t
  exact blk9_res _ _ _ _ _ (gp (grid0.coords t)) (j : S6x2x256.Idx) _
    (by show win0_9.index t 0 * win0_9.size 0 + 1 * (j 0).val = (j 0).val; rw [i0]; omega)
    (by show win0_9.index t 1 * win0_9.size 1 + 1 * (j 1).val = (j 1).val; rw [i1]; omega)
    (by show win0_9.index t 2 * win0_9.size 2 + 1 * (j 2).val = (gp (grid0.coords t)).val * 256 + (j 2).val; rw [i2]; omega)

/-- Result 4 after the run. -/
theorem final9 : (dats m 0 c).arrAt 9 cfg0.N = res4 (argA m c) (argWg m c) (argWu m c) (argSg m c) (argSu m c) := by
  refine (dats m 0 c).arrAt_eq_of_cover 9 _ (flushed9_res m c) fun i => ?_
  have h0 : (i 0).val < 6 := (i 0).isLt
  have h1 : (i 1).val < 2 := (i 1).isLt
  have h2 : (i 2).val < 3584 := (i 2).isLt
  let t : Fin grid0.N := ⟨(i 2).val / 256, by rw [N_0]; omega⟩
  have ht : (gp (grid0.coords t)).val = (i 2).val / 256 := coords_val t
  refine ⟨t, flush0_9 t, ?_⟩
  show i ∈ ((View.whole main_v0_4).slice (win0_9.rect t)).set
  rw [View.set_slice_whole, Rect.mem_set_unit]
  obtain ⟨i0, i1, i2⟩ := index9 t
  obtain ⟨x0, x1, x2⟩ := xsize9 t
  intro a
  match a with
  | ⟨0, _⟩ =>
    show win0_9.index t 0 * win0_9.size 0 ≤ (i 0).val ∧ (i 0).val < win0_9.index t 0 * win0_9.size 0 + win0_9.xsize (grid0.coords t) 0
    rw [i0, x0]; omega
  | ⟨1, _⟩ =>
    show win0_9.index t 1 * win0_9.size 1 ≤ (i 1).val ∧ (i 1).val < win0_9.index t 1 * win0_9.size 1 + win0_9.xsize (grid0.coords t) 1
    rw [i1, x1]; omega
  | ⟨2, _⟩ =>
    show win0_9.index t 2 * win0_9.size 2 ≤ (i 2).val ∧ (i 2).val < win0_9.index t 2 * win0_9.size 2 + win0_9.xsize (grid0.coords t) 2
    rw [i2, x2]; omega

end Cert.KernelIdeal.Result
-- ==== Proof.ReferenceRun.lean ====
/-
  The reference's five result arrays after its run, as functions of the argument arrays.
-/
module

public import proofs.«01_k».proof.Proof.Reference
public import Idealize.ShloMosaic.Lib.Pipeline.Value

@[expose] public section

noncomputable section

open Idealize.ShloMosaic Idealize.ShloMosaic.TcCoe Idealize.SL.Sem
open Idealize.ShloMosaic.Pipeline (Dat)

namespace Cert.ReferenceIdeal.Result

open Cert.ReferenceIdeal Cert.ReferenceIdeal.Gen Cert.ReferenceIdeal.Read

variable (m : (ℓ : Loc nD τ sig) → Buf (Elt Ideal) ℓ) (ρ : Dev nD → PrngReg) (c : Dev nD)

/-- The argument arrays. -/
abbrev argA : Vec Ideal S1536x4096 .bf16 := m ((c : Thread nD τ).loc main_arg0)
/-- The gate weight codes, as the memory holds them at the start. -/
abbrev argWg : Vec Ideal S4096x3584 .fp8e4m3 := m ((c : Thread nD τ).loc main_arg1)
/-- The up weight codes, as the memory holds them at the start. -/
abbrev argWu : Vec Ideal S4096x3584 .fp8e4m3 := m ((c : Thread nD τ).loc main_arg2)
/-- The gate weight scales, as the memory holds them at the start. -/
abbrev argSg : Vec Ideal S32x28 .f32 := m ((c : Thread nD τ).loc main_arg3)
/-- The up weight scales, as the memory holds them at the start. -/
abbrev argSu : Vec Ideal S32x28 .f32 := m ((c : Thread nD τ).loc main_arg4)

/-- The one block of operand 0 starts at the origin. -/
theorem index0 : ∀ (t : Fin grid0.N) (a : Fin 2), win0_0.index t a * win0_0.size a = 0 := by decide +kernel

/-- Window 0 holds the whole of its array. -/
theorem iblk0 (t : Fin cfg0.N) : (iblk m c 0 t : Vec Ideal S1536x4096 .bf16) = argA m c := by
  funext j
  unfold iblk
  rw [View.read_apply]
  show V m c main_arg0 _ = m _ _
  unfold V
  congr 1
  funext a
  apply Fin.ext
  show win0_0.index t a * win0_0.size a + 1 * (j a).val = (j a).val
  rw [index0 t a]
  omega

/-- The one block of operand 1 starts at the origin. -/
theorem index1 : ∀ (t : Fin grid0.N) (a : Fin 2), win0_1.index t a * win0_1.size a = 0 := by decide +kernel

/-- Window 1 holds the whole of its array. -/
theorem iblk1 (t : Fin cfg0.N) : (iblk m c 1 t : Vec Ideal S4096x3584 .fp8e4m3) = argWg m c := by
  funext j
  unfold iblk
  rw [View.read_apply]
  show V m c main_arg1 _ = m _ _
  unfold V
  congr 1
  funext a
  apply Fin.ext
  show win0_1.index t a * win0_1.size a + 1 * (j a).val = (j a).val
  rw [index1 t a]
  omega

/-- The one block of operand 2 starts at the origin. -/
theorem index2 : ∀ (t : Fin grid0.N) (a : Fin 2), win0_2.index t a * win0_2.size a = 0 := by decide +kernel

/-- Window 2 holds the whole of its array. -/
theorem iblk2 (t : Fin cfg0.N) : (iblk m c 2 t : Vec Ideal S4096x3584 .fp8e4m3) = argWu m c := by
  funext j
  unfold iblk
  rw [View.read_apply]
  show V m c main_arg2 _ = m _ _
  unfold V
  congr 1
  funext a
  apply Fin.ext
  show win0_2.index t a * win0_2.size a + 1 * (j a).val = (j a).val
  rw [index2 t a]
  omega

/-- The one block of operand 3 starts at the origin. -/
theorem index3 : ∀ (t : Fin grid0.N) (a : Fin 2), win0_3.index t a * win0_3.size a = 0 := by decide +kernel

/-- Window 3 holds the whole of its array. -/
theorem iblk3 (t : Fin cfg0.N) : (iblk m c 3 t : Vec Ideal S32x28 .f32) = argSg m c := by
  funext j
  unfold iblk
  rw [View.read_apply]
  show V m c main_arg3 _ = m _ _
  unfold V
  congr 1
  funext a
  apply Fin.ext
  show win0_3.index t a * win0_3.size a + 1 * (j a).val = (j a).val
  rw [index3 t a]
  omega

/-- The one block of operand 4 starts at the origin. -/
theorem index4 : ∀ (t : Fin grid0.N) (a : Fin 2), win0_4.index t a * win0_4.size a = 0 := by decide +kernel

/-- Window 4 holds the whole of its array. -/
theorem iblk4 (t : Fin cfg0.N) : (iblk m c 4 t : Vec Ideal S32x28 .f32) = argSu m c := by
  funext j
  unfold iblk
  rw [View.read_apply]
  show V m c main_arg4 _ = m _ _
  unfold V
  congr 1
  funext a
  apply Fin.ext
  show win0_4.index t a * win0_4.size a + 1 * (j a).val = (j a).val
  rw [index4 t a]
  omega

/-- The one block of operand 5 starts at the origin. -/
theorem index5 : ∀ (t : Fin grid0.N) (a : Fin 2), win0_5.index t a * win0_5.size a = 0 := by decide +kernel

/-- The one block of output 5 is the whole array. -/
theorem xsize5 : ∀ (t : Fin grid0.N) (a : Fin 2), win0_5.xsize (grid0.coords t) a = main_v0_0.ty.shape.size a := by decide +kernel

/-- The one point writes back result 0. -/
theorem flushed5 (t : Fin cfg0.N) (hf : (cfg0.win 5).flush t = true) : (dats m 0 c).flushed 5 t
    = ((cfg0.win 5).blk t).view.read (Elt Ideal) (res0 (argA m c) (argWg m c) (argWu m c) (argSg m c) (argSu m c)) := by
  show (cfg0.win 5).cut (grid0.coords t) ((dats m 0 c).after 5 t) = _
  rw [after0_5, out5_res, iblk0, iblk1, iblk2, iblk3, iblk4]
  funext j
  rw [View.read_apply]
  show res0 _ _ _ _ _ _ = res0 _ _ _ _ _ _
  congr 1
  funext a
  apply Fin.ext
  show (j a).val = win0_5.index t a * win0_5.size a + 1 * (j a).val
  rw [index5 t a]
  omega

/-- Result 0 after the run. -/
theorem final5 : (dats m 0 c).arrAt 5 cfg0.N = res0 (argA m c) (argWg m c) (argWu m c) (argSg m c) (argSu m c) := by
  refine (dats m 0 c).arrAt_eq_of_cover 5 _ (flushed5 m c) fun i => ?_
  refine ⟨t0_0, flush0_5 t0_0, ?_⟩
  show i ∈ ((View.whole main_v0_0).slice (win0_5.rect t0_0)).set
  rw [View.set_slice_whole, Rect.mem_set_unit]
  intro a
  show win0_5.index t0_0 a * win0_5.size a ≤ (i a).val ∧ (i a).val < win0_5.index t0_0 a * win0_5.size a + win0_5.xsize (grid0.coords t0_0) a
  rw [index5 t0_0 a, xsize5 t0_0 a]
  have : (i a).val < main_v0_0.ty.shape.size a := (i a).isLt
  omega

/-- The one block of operand 6 starts at the origin. -/
theorem index6 : ∀ (t : Fin grid0.N) (a : Fin 3), win0_6.index t a * win0_6.size a = 0 := by decide +kernel

/-- The one block of output 6 is the whole array. -/
theorem xsize6 : ∀ (t : Fin grid0.N) (a : Fin 3), win0_6.xsize (grid0.coords t) a = main_v0_1.ty.shape.size a := by decide +kernel

/-- The one point writes back result 1. -/
theorem flushed6 (t : Fin cfg0.N) (hf : (cfg0.win 6).flush t = true) : (dats m 0 c).flushed 6 t
    = ((cfg0.win 6).blk t).view.read (Elt Ideal) (res1 (argA m c) (argWg m c) (argWu m c) (argSg m c) (argSu m c)) := by
  show (cfg0.win 6).cut (grid0.coords t) ((dats m 0 c).after 6 t) = _
  rw [after0_6, out6_res, iblk0, iblk1, iblk2, iblk3, iblk4]
  funext j
  rw [View.read_apply]
  show res1 _ _ _ _ _ _ = res1 _ _ _ _ _ _
  congr 1
  funext a
  apply Fin.ext
  show (j a).val = win0_6.index t a * win0_6.size a + 1 * (j a).val
  rw [index6 t a]
  omega

/-- Result 1 after the run. -/
theorem final6 : (dats m 0 c).arrAt 6 cfg0.N = res1 (argA m c) (argWg m c) (argWu m c) (argSg m c) (argSu m c) := by
  refine (dats m 0 c).arrAt_eq_of_cover 6 _ (flushed6 m c) fun i => ?_
  refine ⟨t0_0, flush0_6 t0_0, ?_⟩
  show i ∈ ((View.whole main_v0_1).slice (win0_6.rect t0_0)).set
  rw [View.set_slice_whole, Rect.mem_set_unit]
  intro a
  show win0_6.index t0_0 a * win0_6.size a ≤ (i a).val ∧ (i a).val < win0_6.index t0_0 a * win0_6.size a + win0_6.xsize (grid0.coords t0_0) a
  rw [index6 t0_0 a, xsize6 t0_0 a]
  have : (i a).val < main_v0_1.ty.shape.size a := (i a).isLt
  omega

/-- The one block of operand 7 starts at the origin. -/
theorem index7 : ∀ (t : Fin grid0.N) (a : Fin 4), win0_7.index t a * win0_7.size a = 0 := by decide +kernel

/-- The one block of output 7 is the whole array. -/
theorem xsize7 : ∀ (t : Fin grid0.N) (a : Fin 4), win0_7.xsize (grid0.coords t) a = main_v0_2.ty.shape.size a := by decide +kernel

/-- The one point writes back result 2. -/
theorem flushed7 (t : Fin cfg0.N) (hf : (cfg0.win 7).flush t = true) : (dats m 0 c).flushed 7 t
    = ((cfg0.win 7).blk t).view.read (Elt Ideal) (res2 (argA m c) (argWg m c) (argWu m c) (argSg m c) (argSu m c)) := by
  show (cfg0.win 7).cut (grid0.coords t) ((dats m 0 c).after 7 t) = _
  rw [after0_7, out7_res, iblk0, iblk1, iblk2, iblk3, iblk4]
  funext j
  rw [View.read_apply]
  show res2 _ _ _ _ _ _ = res2 _ _ _ _ _ _
  congr 1
  funext a
  apply Fin.ext
  show (j a).val = win0_7.index t a * win0_7.size a + 1 * (j a).val
  rw [index7 t a]
  omega

/-- Result 2 after the run. -/
theorem final7 : (dats m 0 c).arrAt 7 cfg0.N = res2 (argA m c) (argWg m c) (argWu m c) (argSg m c) (argSu m c) := by
  refine (dats m 0 c).arrAt_eq_of_cover 7 _ (flushed7 m c) fun i => ?_
  refine ⟨t0_0, flush0_7 t0_0, ?_⟩
  show i ∈ ((View.whole main_v0_2).slice (win0_7.rect t0_0)).set
  rw [View.set_slice_whole, Rect.mem_set_unit]
  intro a
  show win0_7.index t0_0 a * win0_7.size a ≤ (i a).val ∧ (i a).val < win0_7.index t0_0 a * win0_7.size a + win0_7.xsize (grid0.coords t0_0) a
  rw [index7 t0_0 a, xsize7 t0_0 a]
  have : (i a).val < main_v0_2.ty.shape.size a := (i a).isLt
  omega

/-- The one block of operand 8 starts at the origin. -/
theorem index8 : ∀ (t : Fin grid0.N) (a : Fin 3), win0_8.index t a * win0_8.size a = 0 := by decide +kernel

/-- The one block of output 8 is the whole array. -/
theorem xsize8 : ∀ (t : Fin grid0.N) (a : Fin 3), win0_8.xsize (grid0.coords t) a = main_v0_3.ty.shape.size a := by decide +kernel

/-- The one point writes back result 3. -/
theorem flushed8 (t : Fin cfg0.N) (hf : (cfg0.win 8).flush t = true) : (dats m 0 c).flushed 8 t
    = ((cfg0.win 8).blk t).view.read (Elt Ideal) (res3 (argA m c) (argWg m c) (argWu m c) (argSg m c) (argSu m c)) := by
  show (cfg0.win 8).cut (grid0.coords t) ((dats m 0 c).after 8 t) = _
  rw [after0_8, out8_res, iblk0, iblk1, iblk2, iblk3, iblk4]
  funext j
  rw [View.read_apply]
  show res3 _ _ _ _ _ _ = res3 _ _ _ _ _ _
  congr 1
  funext a
  apply Fin.ext
  show (j a).val = win0_8.index t a * win0_8.size a + 1 * (j a).val
  rw [index8 t a]
  omega

/-- Result 3 after the run. -/
theorem final8 : (dats m 0 c).arrAt 8 cfg0.N = res3 (argA m c) (argWg m c) (argWu m c) (argSg m c) (argSu m c) := by
  refine (dats m 0 c).arrAt_eq_of_cover 8 _ (flushed8 m c) fun i => ?_
  refine ⟨t0_0, flush0_8 t0_0, ?_⟩
  show i ∈ ((View.whole main_v0_3).slice (win0_8.rect t0_0)).set
  rw [View.set_slice_whole, Rect.mem_set_unit]
  intro a
  show win0_8.index t0_0 a * win0_8.size a ≤ (i a).val ∧ (i a).val < win0_8.index t0_0 a * win0_8.size a + win0_8.xsize (grid0.coords t0_0) a
  rw [index8 t0_0 a, xsize8 t0_0 a]
  have : (i a).val < main_v0_3.ty.shape.size a := (i a).isLt
  omega

/-- The one block of operand 9 starts at the origin. -/
theorem index9 : ∀ (t : Fin grid0.N) (a : Fin 3), win0_9.index t a * win0_9.size a = 0 := by decide +kernel

/-- The one block of output 9 is the whole array. -/
theorem xsize9 : ∀ (t : Fin grid0.N) (a : Fin 3), win0_9.xsize (grid0.coords t) a = main_v0_4.ty.shape.size a := by decide +kernel

/-- The one point writes back result 4. -/
theorem flushed9 (t : Fin cfg0.N) (hf : (cfg0.win 9).flush t = true) : (dats m 0 c).flushed 9 t
    = ((cfg0.win 9).blk t).view.read (Elt Ideal) (res4 (argA m c) (argWg m c) (argWu m c) (argSg m c) (argSu m c)) := by
  show (cfg0.win 9).cut (grid0.coords t) ((dats m 0 c).after 9 t) = _
  rw [after0_9, out9_res, iblk0, iblk1, iblk2, iblk3, iblk4]
  funext j
  rw [View.read_apply]
  show res4 _ _ _ _ _ _ = res4 _ _ _ _ _ _
  congr 1
  funext a
  apply Fin.ext
  show (j a).val = win0_9.index t a * win0_9.size a + 1 * (j a).val
  rw [index9 t a]
  omega

/-- Result 4 after the run. -/
theorem final9 : (dats m 0 c).arrAt 9 cfg0.N = res4 (argA m c) (argWg m c) (argWu m c) (argSg m c) (argSu m c) := by
  refine (dats m 0 c).arrAt_eq_of_cover 9 _ (flushed9 m c) fun i => ?_
  refine ⟨t0_0, flush0_9 t0_0, ?_⟩
  show i ∈ ((View.whole main_v0_4).slice (win0_9.rect t0_0)).set
  rw [View.set_slice_whole, Rect.mem_set_unit]
  intro a
  show win0_9.index t0_0 a * win0_9.size a ≤ (i a).val ∧ (i a).val < win0_9.index t0_0 a * win0_9.size a + win0_9.xsize (grid0.coords t0_0) a
  rw [index9 t0_0 a, xsize9 t0_0 a]
  have : (i a).val < main_v0_4.ty.shape.size a := (i a).isLt
  omega

/-- The run, read: each result array as a function of the argument arrays, the arguments unchanged. -/
theorem run : θ_run defs (onTc (τ := τ) (main (F := Ideal))) ⟨m, fun _ => 0, ρ⟩ fun r => ∀ c : Dev nD,
      r.2.mem ((c : Thread nD τ).loc main_v0_0) = res0 (argA m c) (argWg m c) (argWu m c) (argSg m c) (argSu m c)
      ∧ r.2.mem ((c : Thread nD τ).loc main_v0_1) = res1 (argA m c) (argWg m c) (argWu m c) (argSg m c) (argSu m c)
      ∧ r.2.mem ((c : Thread nD τ).loc main_v0_2) = res2 (argA m c) (argWg m c) (argWu m c) (argSg m c) (argSu m c)
      ∧ r.2.mem ((c : Thread nD τ).loc main_v0_3) = res3 (argA m c) (argWg m c) (argWu m c) (argSg m c) (argSu m c)
      ∧ r.2.mem ((c : Thread nD τ).loc main_v0_4) = res4 (argA m c) (argWg m c) (argWu m c) (argSg m c) (argSu m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c), ((h c).1 6).trans (final6 m c),
      ((h c).1 7).trans (final7 m c), ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.Result
-- ==== Proof.DownStream.lean ====
/-
  The new streams of the down projection: what one tile of 8 rows and 128 lanes stores, entry by entry.
-/
module

public import proofs.«01_k».proof.Proof.Gen.DownIdeal
public import Idealize.ShloMosaic.Lib.Pointwise

@[expose] public section

noncomputable section

open Idealize.ShloMosaic Idealize.ShloMosaic.TcCoe Idealize.SL.Sem

namespace Cert.DownIdeal.Tile

open Cert.DownIdeal Cert.DownIdeal.Gen

/-- Each single column lies inside a tile of row weights. -/
theorem slicesC : ∀ k : Fin 128, S8x128.Slices ![0, k.val] S8x1 := by decide

/-- Each tile lies inside a chunk of the projection. -/
theorem slicesF : ∀ (g : Fin 32) (e : Fin 2), S256x256.Slices ![8 * g.val, 128 * e.val] S8x128 := by decide

/-- Column `k` of a tile of row weights, along the lanes. -/
def colv (hc : Vec Ideal S8x128 .f32) (k : Fin 128) : FVec Ideal S8x128 .f32 :=
  broadcastTo S8x128 (shapeCast S8x1 (extractStridedSlice S8x1 ![0, k.val] hc (slicesC k)) shapeCasts_S8x1_S8x1) broadcasts_S8x1_S8x128

/-- A column along the lanes, at one place. -/
theorem colv_apply (hc : Vec Ideal S8x128 .f32) (k : Fin 128) (r : Fin 8) (l : Fin 128) :
    colv hc k (ix2 r l) = hc (ix2 r k) := by
  pointwise [colv]

/-- One of the two streams a tile of word rows holds. -/
def strmOf (p : Fin 2) (raw : Vec Ideal S8x1x2x128 .bf16) : FVec Ideal S8x128 .f32 :=
  extf .f32 (shapeCast S8x128 (rowsOfParity p S8x1x1x128 raw bitcasts_S8x1x2x128_w16_S8x1x1x128_w32) shapeCasts_S8x1x1x128_S8x128 : FVec Ideal S8x128 .bf16) (by decide)

/-- One of the two streams, at one place. -/
theorem strmOf0 (raw : Vec Ideal S8x1x2x128 .bf16) (r : Fin 8) (l : Fin 128) :
    strmOf 0 raw (ix2 r l) = raw (ix4 r 0 0 l) := by
  pointwise [strmOf]

/-- The other of the two streams, at one place. -/
theorem strmOf1 (raw : Vec Ideal S8x1x2x128 .bf16) (r : Fin 8) (l : Fin 128) :
    strmOf 1 raw (ix2 r l) = raw (ix4 r 0 1 l) := by
  pointwise [strmOf]

/-- The tile of a chunk of the projection. -/
def tileOf (f : FVec Ideal S256x256 .f32) (g : Fin 32) (e : Fin 2) : FVec Ideal S8x128 .f32 :=
  extractStridedSlice S8x128 ![8 * g.val, 128 * e.val] f (slicesF g e)

/-- The tile of a chunk, at one place. -/
theorem tileOf_apply (f : FVec Ideal S256x256 .f32) (g : Fin 32) (e : Fin 2) (r : Fin 8) (l : Fin 128) :
    tileOf f g e (ix2 r l) = f (ix2 (⟨8 * g.val + r.val, by omega⟩ : Fin 256) (⟨128 * e.val + l.val, by omega⟩ : Fin 256)) := by
  pointwise [tileOf]

/-- New stream `a` on a tile. -/
def mix (hc : Vec Ideal S8x128 .f32) (raw0 raw1 : Vec Ideal S8x1x2x128 .bf16) (t : FVec Ideal S8x128 .f32) (a : Fin 4) : FVec Ideal S8x128 .f32 :=
  addf (addf (addf (addf (mulf (colv hc ⟨8 + 4 * a.val, by omega⟩) (strmOf 0 raw0)) (mulf (colv hc ⟨9 + 4 * a.val, by omega⟩) (strmOf 1 raw0)))
    (mulf (colv hc ⟨10 + 4 * a.val, by omega⟩) (strmOf 0 raw1))) (mulf (colv hc ⟨11 + 4 * a.val, by omega⟩) (strmOf 1 raw1)))
    (mulf (colv hc ⟨4 + a.val, by omega⟩) t)

/-- New stream `a` on a tile, at one place. -/
theorem mix_apply (hc : Vec Ideal S8x128 .f32) (raw0 raw1 : Vec Ideal S8x1x2x128 .bf16) (t : FVec Ideal S8x128 .f32) (a : Fin 4)
    (r : Fin 8) (l : Fin 128) : mix hc raw0 raw1 t a (ix2 r l)
    = (hc (ix2 r (⟨8 + 4 * a.val, by omega⟩ : Fin 128)) : EReal) * (raw0 (ix4 r 0 0 l) : EReal)
      + (hc (ix2 r (⟨9 + 4 * a.val, by omega⟩ : Fin 128)) : EReal) * (raw0 (ix4 r 0 1 l) : EReal)
      + (hc (ix2 r (⟨10 + 4 * a.val, by omega⟩ : Fin 128)) : EReal) * (raw1 (ix4 r 0 0 l) : EReal)
      + (hc (ix2 r (⟨11 + 4 * a.val, by omega⟩ : Fin 128)) : EReal) * (raw1 (ix4 r 0 1 l) : EReal)
      + (hc (ix2 r (⟨4 + a.val, by omega⟩ : Fin 128)) : EReal) * (t (ix2 r l) : EReal) := by
  rw [← colv_apply hc _ r l, ← colv_apply hc _ r l, ← colv_apply hc _ r l, ← colv_apply hc _ r l, ← colv_apply hc _ r l,
    ← strmOf0 raw0, ← strmOf1 raw0, ← strmOf0 raw1, ← strmOf1 raw1]
  rfl

/-- Two streams as the rows of one tile of words. -/
def pack (u v : FVec Ideal S8x128 .f32) : Vec Ideal S8x1x2x128 .bf16 :=
  interleaveRows S8x1x2x128
    (shapeCast S8x1x1x128 (truncf .bf16 u (by decide) : FVec Ideal S8x128 .bf16) shapeCasts_S8x128_S8x1x1x128)
    (shapeCast S8x1x1x128 (truncf .bf16 v (by decide) : FVec Ideal S8x128 .bf16) shapeCasts_S8x128_S8x1x1x128)
    bitcasts_S8x1x2x128_w16_S8x1x1x128_w32

/-- The first row of a tile of words. -/
theorem pack0 (u v : FVec Ideal S8x128 .f32) (r : Fin 8) (l : Fin 128) : pack u v (ix4 r 0 0 l) = u (ix2 r l) := by
  pointwise [pack]

/-- The second row of a tile of words. -/
theorem pack1 (u v : FVec Ideal S8x128 .f32) (r : Fin 8) (l : Fin 128) : pack u v (ix4 r 0 1 l) = v (ix2 r l) := by
  pointwise [pack]

/-- The streams `2 p` and `2 p + 1`, packed. -/
def packed (hc : Vec Ideal S8x128 .f32) (raw0 raw1 : Vec Ideal S8x1x2x128 .bf16) (t : FVec Ideal S8x128 .f32) (p : Fin 2) : Vec Ideal S8x1x2x128 .bf16 :=
  pack (mix hc raw0 raw1 t ⟨2 * p.val, by omega⟩) (mix hc raw0 raw1 t ⟨2 * p.val + 1, by omega⟩)

/-- A packed tile, at one place. -/
theorem packed_apply (hc : Vec Ideal S8x128 .f32) (raw0 raw1 : Vec Ideal S8x1x2x128 .bf16) (t : FVec Ideal S8x128 .f32) (p q : Fin 2)
    (r : Fin 8) (l : Fin 128) : packed hc raw0 raw1 t p (ix4 r 0 q l) = mix hc raw0 raw1 t ⟨2 * p.val + q.val, by omega⟩ (ix2 r l) := by
  match q with
  | ⟨0, _⟩ => exact pack0 _ _ r l
  | ⟨1, _⟩ => exact pack1 _ _ r l

end Cert.DownIdeal.Tile
-- ==== Proof.DownWiden.lean ====
/-
  The down projection's weight as the body keeps it in its scratch buffer: each entry times the scale of its 128x128 block.
-/
module

public import proofs.«01_k».proof.Proof.Gen.DownIdeal.Value
public import proofs.«01_k».proof.Proof.Widen
public import Idealize.ShloMosaic.Lib.Pipeline.CanonAppend

@[expose] public section

noncomputable section

open Idealize.ShloMosaic Idealize.ShloMosaic.TcCoe Idealize.SL.Sem

namespace Cert.DownIdeal.Tile

open Cert.DownIdeal Cert.DownIdeal.Gen
open Cert.KernelIdeal.Tile (canon_eq_of_pieces)

/-- Where the body reads the scale of weight block `(kb, nb)` at grid point `i`. -/
def scaleOff (i : grid0.Coords) (kb : Fin 28) (nb : Fin 2) : Fin 2 → Nat :=
  ![kb.val, (Scalar.indexCast (Scalar.addi (Scalar.muli (BitVec.ofNat 32 (i 0).val) 2#32) (BitVec.ofNat 32 nb.val)) : Index).toNat]

/-- Where the scale of weight block `kb`, `nb` of a grid step lies. -/
theorem scaleOff_eq : ∀ (i : grid0.Coords) (kb : Fin 28) (nb : Fin 2), scaleOff i kb nb = ![kb.val, 2 * (i 0).val + nb.val] := by
  intro i kb nb
  have h : ∀ (i : grid0.Coords) (nb : Fin 2),
      (Scalar.indexCast (Scalar.addi (Scalar.muli (BitVec.ofNat 32 (i 0).val) 2#32) (BitVec.ofNat 32 nb.val)) : Index).toNat
        = 2 * (i 0).val + nb.val := by decide +kernel
  unfold scaleOff
  rw [h]

/-- The place of that scale is inside the scale array. -/
theorem scaleOff_inb (i : grid0.Coords) (kb : Fin 28) (nb : Fin 2) (a : Fin 2) :
    scaleOff i kb nb a + S1x1.size a ≤ S28x32.size a := by
  have hi : (i 0).val < 16 := (i 0).isLt
  rw [scaleOff_eq]
  match a with
  | ⟨0, _⟩ => show kb.val + 1 ≤ 28; omega
  | ⟨1, _⟩ => show 2 * (i 0).val + nb.val + 1 ≤ 32; omega

/-- Block `(kb, nb)` lies in the weight scratch. -/
theorem blockInb (kb : Fin 28) (nb : Fin 2) (a : Fin 2) :
    (![128 * kb.val, 128 * nb.val] : Fin 2 → Nat) a + S128x128.size a ≤ S3584x256.size a := by
  match a with
  | ⟨0, _⟩ => show 128 * kb.val + 128 ≤ 3584; omega
  | ⟨1, _⟩ => show 128 * nb.val + 128 ≤ 256; omega

/-- What the body stores in block `(kb, nb)` of the weight scratch. -/
def valueW (i : grid0.Coords) (args : Memref sig .tc .smem S28x32 .f32) (hs : args.IsWhole)
    (argw : Memref sig .tc .vmem S3584x256 .fp8e4m3) (hw : argw.IsWhole) (s : Vec Ideal S28x32 .f32)
    (w : Vec Ideal S3584x256 .fp8e4m3) (kb : Fin 28) (nb : Fin 2) : FVec Ideal S128x128 .bf16 :=
  shapeCast S128x128 (mulf (extf .bf16 (View.readAt (Elt Ideal) argw.view (Rect.unit (s := S3584x256)
      ![128 * kb.val, 128 * nb.val] S128x128.size (blockInb kb nb)).toLoadRect
      (hw.unread w) : FVec Ideal S128x128 .fp8e4m3) bitsLt_fp8e4m3_bf16)
    (truncf .bf16 (broadcast S128x128 (View.readAt (Elt Ideal) args.view (Rect.unit (s := S28x32) (scaleOff i kb nb) S1x1.size
      (scaleOff_inb i kb nb)).toLoadRect (hs.unread s) (Shape.Idx.first (by decide : 0 < S1x1.numel)) : Ideal .f32) : FVec Ideal S128x128 .f32)
      bitsLt_bf16_f32)) shapeCasts_S128x128_S128x128

/-- A 128x128 block of the weight scratch. -/
def pieceW (i : grid0.Coords) (args : Memref sig .tc .smem S28x32 .f32) (hs : args.IsWhole)
    (argw : Memref sig .tc .vmem S3584x256 .fp8e4m3) (hw : argw.IsWhole) (s : Vec Ideal S28x32 .f32)
    (w : Vec Ideal S3584x256 .fp8e4m3) (kb : Fin 28) (nb : Fin 2) : View.Piece (Elt Ideal) S3584x256 .bf16 :=
  ⟨Rect.unit ![128 * kb.val, 128 * nb.val] S128x128.size (blockInb kb nb), valueW i args hs argw hw s w kb nb⟩

/-- The blocks, last first. -/
def blocksW {α : Type} (f : Fin 28 → Fin 2 → α) : List α :=
  [27, 26, 25, 24, 23, 22, 21, 20, 19, 18, 17, 16, 15, 14, 13, 12, 11, 10, 9, 8, 7, 6, 5, 4, 3, 2, 1, 0].flatMap
    fun kb => [f kb 1, f kb 0]

/-- A member of the list of weight blocks is the block of some row and column block. -/
theorem mem_blocksW {α : Type} (f : Fin 28 → Fin 2 → α) (p : α) (h : p ∈ blocksW f) : ∃ kb nb, p = f kb nb := by
  unfold blocksW at h
  obtain ⟨kb, -, h⟩ := List.mem_flatMap.mp h
  simp only [List.mem_cons, List.not_mem_nil, or_false] at h
  rcases h with h | h
  · exact ⟨kb, 1, h⟩
  · exact ⟨kb, 0, h⟩

/-- The weight block times its scales. -/
def widened (i : grid0.Coords) (s : Vec Ideal S28x32 .f32) (w : Vec Ideal S3584x256 .fp8e4m3) : FVec Ideal S3584x256 .bf16 :=
  fun j => (w j : EReal) * (s (ix2 (⟨(j 0).val / 128, by have : (j 0).val < 3584 := (j 0).isLt; omega⟩ : Fin 28)
    (⟨2 * (i 0).val + (j 1).val / 128, by have : (i 0).val < 16 := (i 0).isLt; have : (j 1).val < 256 := (j 1).isLt; omega⟩ : Fin 32)) : EReal)

variable (c : Dev nD) (i : grid0.Coords) (arg1 : Memref sig .tc .smem S28x32 .f32) (harg1 : arg1.IsWhole)
  (arg4 : Memref sig .tc .vmem S3584x256 .fp8e4m3) (harg4 : arg4.IsWhole)
  (arg8 : Memref sig .tc .vmem S3584x256 .bf16)
  (x0 : Vec Ideal S28x32 .f32) (x3 : Vec Ideal S3584x256 .fp8e4m3)

/-- Each block of the scratch holds its part of the widened weight. -/
theorem valueW_apply (kb : Fin 28) (nb : Fin 2) (m n : Fin 128) :
    valueW i arg1 harg1 arg4 harg4 x0 x3 kb nb (ix2 m n)
      = widened i x0 x3 (ix2 (⟨128 * kb.val + m.val, by omega⟩ : Fin 3584) (⟨128 * nb.val + n.val, by omega⟩ : Fin 256)) := by
  unfold valueW widened
  rw [View.readAt_eq_ld, harg4.read_unread, View.readAt_eq_ld, harg1.read_unread]
  pointwise
  have e0 : scaleOff i kb nb 0 = kb.val := congrFun (scaleOff_eq i kb nb) 0
  have e1 : scaleOff i kb nb 1 = 2 * (i 0).val + nb.val := congrFun (scaleOff_eq i kb nb) 1
  refine congrArg (fun j => (x3 _ : EReal) * (x0 j : EReal)) ?_
  congr 1 <;> apply Fin.ext
  · show scaleOff i kb nb 0 = (128 * kb.val + m.val) / 128
    omega
  · show scaleOff i kb nb 1 = 2 * (i 0).val + (128 * nb.val + n.val) / 128
    omega

/-- The blocks hold the widened weight. -/
theorem blocksW_eq (p : View.Piece (Elt Ideal) S3584x256 .bf16) (hp : p ∈ blocksW (pieceW i arg1 harg1 arg4 harg4 x0 x3)) :
    ∀ x, p.2 x = widened i x0 x3 (p.1.emb x) := by
  obtain ⟨kb, nb, rfl⟩ := mem_blocksW _ _ hp
  intro x
  obtain ⟨m, n, rfl⟩ : ∃ (m n : Fin 128), x = (ix2 m n : S128x128.Idx) := ⟨x 0, x 1, eq_ix2 (x : S128x128.Idx)⟩
  refine (valueW_apply i arg1 harg1 arg4 harg4 x0 x3 kb nb m n).trans (congrArg _ (funext fun a => Fin.ext ?_))
  match a with
  | ⟨0, _⟩ => show 128 * kb.val + m.val = 128 * kb.val + 1 * m.val; omega
  | ⟨1, _⟩ => show 128 * nb.val + n.val = 128 * nb.val + 1 * n.val; omega

/-- The blocks cover the scratch. -/
theorem blocksW_cover (y : S3584x256.Idx) : ∃ p ∈ blocksW (pieceW i arg1 harg1 arg4 harg4 x0 x3), y ∈ p.1.set :=
  View.cover_of_tiledL (blocksW (pieceW i arg1 harg1 arg4 harg4 x0 x3)) S128x128.size (by sl_kernel_rfl) y

/-- A read of the whole scratch is the widened weight. -/
theorem readCov_blocksW : arg8.view.readCov (blocksW (pieceW i arg1 harg1 arg4 harg4 x0 x3))
      (Rect.unit ![0, 0] S3584x256.size inb_S3584x256_S3584x256_0_0).toLoadRect = widened i x0 x3 := by
  rw [View.readCov_eq_canon', canon_eq_of_pieces (widened i x0 x3) _ (blocksW_eq i arg1 harg1 arg4 harg4 x0 x3)
    (blocksW_cover i arg1 harg1 arg4 harg4 x0 x3)]
  funext j
  refine congrArg _ (funext fun a => Fin.ext ?_)
  match a with
  | ⟨0, _⟩ => show 0 + 1 * (j 0).val = (j 0).val; omega
  | ⟨1, _⟩ => show 0 + 1 * (j 1).val = (j 1).val; omega

/-- The scratch is read back over its blocks. -/
theorem scratch_blocks : kernelRun0_A.sl.v618 (F := Ideal) c i arg1 harg1 arg4 harg4 arg8 x0 x3
    = arg8.view.readCov (blocksW (pieceW i arg1 harg1 arg4 harg4 x0 x3))
      (Rect.unit ![0, 0] S3584x256.size inb_S3584x256_S3584x256_0_0).toLoadRect := by
  sl_kernel_rfl

/-- The weight as the body reads it back. -/
theorem scratch_eq : kernelRun0_A.sl.v618 (F := Ideal) c i arg1 harg1 arg4 harg4 arg8 x0 x3 = widened i x0 x3 := by
  rw [scratch_blocks, readCov_blocksW]

end Cert.DownIdeal.Tile
-- ==== Proof.DownReference.lean ====
/-
  What the reference of the down projection computes, entry by entry, and its two result arrays after its run.
-/
module

public import proofs.«01_k».proof.Proof.Gen.DownReferenceIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.DownReferenceIdeal.Read

open Cert.DownReferenceIdeal Cert.DownReferenceIdeal.Gen

/-- The down projection at row `m`, column `n`: row `m` of `h` against column `n` of the weight, each weight entry times
    the scale of its 128x128 block. -/
def prod (h : Vec Ideal S1536x3584 .bf16) (w : Vec Ideal S3584x4096 .fp8e4m3) (s : Vec Ideal S28x32 .f32)
    (m : Fin 1536) (n : Fin 4096) : EReal :=
  ∑ k : Fin 3584, (h (ix2 m k) : EReal) * ((w (ix2 k n) : EReal)
    * (s (ix2 (⟨k.val / 128, by omega⟩ : Fin 28) (⟨n.val / 128, by omega⟩ : Fin 32)) : EReal))

/-- Stream `a` of the new streams at row `m`, column group `g`, lane `l`: the four streams mixed, each with its weight
    of the row, and the projection times the row's weight of the stream. -/
def newAt (h : Vec Ideal S1536x3584 .bf16) (hc : Vec Ideal S1536x128 .f32) (w : Vec Ideal S3584x4096 .fp8e4m3)
    (s : Vec Ideal S28x32 .f32) (x : Vec Ideal S1536x32x4x128 .bf16)
    (m : Fin 1536) (g : Fin 32) (a : Fin 4) (l : Fin 128) : EReal :=
  (∑ b : Fin 4, (hc (ix2 m (⟨8 + (a.val * 4 + b.val), by omega⟩ : Fin 128)) : EReal) * (x (ix4 m g b l) : EReal))
    + (hc (ix2 m (⟨4 + a.val, by omega⟩ : Fin 128)) : EReal) * prod h w s m ⟨g.val * 128 + l.val, by omega⟩

/-- The projection. -/
def res (h : Vec Ideal S1536x3584 .bf16) (w : Vec Ideal S3584x4096 .fp8e4m3) (s : Vec Ideal S28x32 .f32) :
    Vec Ideal S1536x4096 .bf16 := fun j => prod h w s (j 0) (j 1)

/-- The new streams. -/
def resNew (h : Vec Ideal S1536x3584 .bf16) (hc : Vec Ideal S1536x128 .f32) (w : Vec Ideal S3584x4096 .fp8e4m3)
    (s : Vec Ideal S28x32 .f32) (x : Vec Ideal S1536x32x4x128 .bf16) : Vec Ideal S1536x32x4x128 .bf16 :=
  fun j => newAt h hc w s x (j 0) (j 1) (j 2) (j 3)

variable (h : Vec Ideal S1536x3584 .bf16) (hc : Vec Ideal S1536x128 .f32) (w : Vec Ideal S3584x4096 .fp8e4m3)
  (s : Vec Ideal S28x32 .f32) (x : Vec Ideal S1536x32x4x128 .bf16)

/-- The reference's product, entry by entry. -/
theorem pay1_apply (m : Fin 1536) (n : Fin 4096) : k0_pay1 (F := Ideal) h w s (ix2 m n) = prod h w s m n := by
  pointwise [k0_pay1]
  rfl

/-- The reference's projection. -/
theorem pay2_eq : k0_pay2 (F := Ideal) h w s = res h w s := by
  funext j
  obtain ⟨m, n, rfl⟩ : ∃ (m : Fin 1536) (n : Fin 4096), j = ix2 m n := ⟨j 0, j 1, eq_ix2 j⟩
  exact pay1_apply h w s m n

/-- The reference's new streams, entry by entry. -/
theorem pay3_apply (m : Fin 1536) (g : Fin 32) (a : Fin 4) (l : Fin 128) :
    k0_pay3 (F := Ideal) h w s hc hc x (ix4 m g a l) = newAt h hc w s x m g a l := by
  unfold newAt
  rw [← pay1_apply]
  generalize hp : k0_pay1 (F := Ideal) h w s = p
  pointwise [k0_pay3]
  rw [hp]

/-- The reference's new streams. -/
theorem pay3_eq : k0_pay3 (F := Ideal) h w s hc hc x = resNew h hc w s x := by
  funext j
  obtain ⟨m, g, a, l, rfl⟩ : ∃ (m : Fin 1536) (g : Fin 32) (a : Fin 4) (l : Fin 128), j = ix4 m g a l :=
    ⟨j 0, j 1, j 2, j 3, eq_ix4 j⟩
  exact pay3_apply h hc w s x m g a l

/-- Reading the whole left operand gives it. -/
theorem ld_h : View.ld h r0_0 = h := View.ld_unit_zero (S := S1536x3584) (by decide) _ _
/-- Reading the whole weight gives it. -/
theorem ld_w : View.ld w r0_1 = w := View.ld_unit_zero (S := S3584x4096) (by decide) _ _
/-- Reading all scales gives them. -/
theorem ld_s : View.ld s r0_2 = s := View.ld_unit_zero (S := S28x32) (by decide) _ _
/-- Reading all row weights gives them. -/
theorem ld_hc : View.ld hc r0_4 = hc := View.ld_unit_zero (S := S1536x128) (by decide) _ _
/-- Reading all streams gives them. -/
theorem ld_x : View.ld x r0_5 = x := View.ld_unit_zero (S := S1536x32x4x128) (by decide) _ _

/-- What the body leaves in the block of the new streams. -/
theorem out5_res : out0_5 (F := Ideal) h hc w s x = resNew h hc w s x := by
  unfold out0_5
  rw [View.canon_unit_zero (by decide), ld_h, ld_w, ld_s, ld_hc, ld_x]
  exact pay3_eq h hc w s x

/-- What the body leaves in the block of the projection. -/
theorem out6_res : out0_6 (F := Ideal) h hc w s x = res h w s := by
  unfold out0_6
  rw [View.canon_unit_zero (by decide), ld_h, ld_w, ld_s]
  exact pay2_eq h w s

end Cert.DownReferenceIdeal.Read

namespace Cert.DownReferenceIdeal.Result

open Cert.DownReferenceIdeal Cert.DownReferenceIdeal.Gen Cert.DownReferenceIdeal.Read

variable (m : (ℓ : Loc nD τ sig) → Buf (Elt Ideal) ℓ) (ρ : Dev nD → PrngReg) (c : Dev nD)

/-- The left operand, as the memory holds it at the start. -/
abbrev argH : Vec Ideal S1536x3584 .bf16 := m ((c : Thread nD τ).loc main_arg0)
/-- The row weights, as the memory holds them at the start. -/
abbrev argHc : Vec Ideal S1536x128 .f32 := m ((c : Thread nD τ).loc main_arg1)
/-- The weight codes, as the memory holds them at the start. -/
abbrev argW : Vec Ideal S3584x4096 .fp8e4m3 := m ((c : Thread nD τ).loc main_arg2)
/-- The weight scales, as the memory holds them at the start. -/
abbrev argS : Vec Ideal S28x32 .f32 := m ((c : Thread nD τ).loc main_arg3)
/-- The streams, as the memory holds them at the start. -/
abbrev argX : Vec Ideal S1536x32x4x128 .bf16 := m ((c : Thread nD τ).loc main_arg4)

/-- The one block of operand 0 starts at the origin. -/
theorem index0 : ∀ (t : Fin grid0.N) (a : Fin 2), win0_0.index t a * win0_0.size a = 0 := by decide +kernel

/-- Window 0 holds the whole of its array. -/
theorem iblk0 (t : Fin cfg0.N) : (iblk m c 0 t : Vec Ideal S1536x3584 .bf16) = argH m c := by
  funext j
  unfold iblk
  rw [View.read_apply]
  show V m c main_arg0 _ = m _ _
  unfold V
  congr 1
  funext a
  apply Fin.ext
  show win0_0.index t a * win0_0.size a + 1 * (j a).val = (j a).val
  rw [index0 t a]
  omega

/-- The one block of operand 1 starts at the origin. -/
theorem index1 : ∀ (t : Fin grid0.N) (a : Fin 2), win0_1.index t a * win0_1.size a = 0 := by decide +kernel

/-- Window 1 holds the whole of its array. -/
theorem iblk1 (t : Fin cfg0.N) : (iblk m c 1 t : Vec Ideal S1536x128 .f32) = argHc m c := by
  funext j
  unfold iblk
  rw [View.read_apply]
  show V m c main_arg1 _ = m _ _
  unfold V
  congr 1
  funext a
  apply Fin.ext
  show win0_1.index t a * win0_1.size a + 1 * (j a).val = (j a).val
  rw [index1 t a]
  omega

/-- The one block of operand 2 starts at the origin. -/
theorem index2 : ∀ (t : Fin grid0.N) (a : Fin 2), win0_2.index t a * win0_2.size a = 0 := by decide +kernel

/-- Window 2 holds the whole of its array. -/
theorem iblk2 (t : Fin cfg0.N) : (iblk m c 2 t : Vec Ideal S3584x4096 .fp8e4m3) = argW m c := by
  funext j
  unfold iblk
  rw [View.read_apply]
  show V m c main_arg2 _ = m _ _
  unfold V
  congr 1
  funext a
  apply Fin.ext
  show win0_2.index t a * win0_2.size a + 1 * (j a).val = (j a).val
  rw [index2 t a]
  omega

/-- The one block of operand 3 starts at the origin. -/
theorem index3 : ∀ (t : Fin grid0.N) (a : Fin 2), win0_3.index t a * win0_3.size a = 0 := by decide +kernel

/-- Window 3 holds the whole of its array. -/
theorem iblk3 (t : Fin cfg0.N) : (iblk m c 3 t : Vec Ideal S28x32 .f32) = argS m c := by
  funext j
  unfold iblk
  rw [View.read_apply]
  show V m c main_arg3 _ = m _ _
  unfold V
  congr 1
  funext a
  apply Fin.ext
  show win0_3.index t a * win0_3.size a + 1 * (j a).val = (j a).val
  rw [index3 t a]
  omega

/-- The one block of operand 4 starts at the origin. -/
theorem index4 : ∀ (t : Fin grid0.N) (a : Fin 4), win0_4.index t a * win0_4.size a = 0 := by decide +kernel

/-- Window 4 holds the whole of its array. -/
theorem iblk4 (t : Fin cfg0.N) : (iblk m c 4 t : Vec Ideal S1536x32x4x128 .bf16) = argX m c := by
  funext j
  unfold iblk
  rw [View.read_apply]
  show V m c main_arg4 _ = m _ _
  unfold V
  congr 1
  funext a
  apply Fin.ext
  show win0_4.index t a * win0_4.size a + 1 * (j a).val = (j a).val
  rw [index4 t a]
  omega

/-- The one block of output 5 starts at the origin. -/
theorem index5 : ∀ (t : Fin grid0.N) (a : Fin 4), win0_5.index t a * win0_5.size a = 0 := by decide +kernel

/-- The one block of output 5 is the whole array. -/
theorem xsize5 : ∀ (t : Fin grid0.N) (a : Fin 4), win0_5.xsize (grid0.coords t) a = main_v0_0.ty.shape.size a := by decide +kernel

/-- The one point writes back the new streams. -/
theorem flushed5 (t : Fin cfg0.N) (hf : (cfg0.win 5).flush t = true) : (dats m 0 c).flushed 5 t
    = ((cfg0.win 5).blk t).view.read (Elt Ideal) (resNew (argH m c) (argHc m c) (argW m c) (argS m c) (argX m c)) := by
  show (cfg0.win 5).cut (grid0.coords t) ((dats m 0 c).after 5 t) = _
  rw [after0_5, out5_res, iblk0, iblk1, iblk2, iblk3, iblk4]
  funext j
  rw [View.read_apply]
  show resNew _ _ _ _ _ _ = resNew _ _ _ _ _ _
  congr 1
  funext a
  apply Fin.ext
  show (j a).val = win0_5.index t a * win0_5.size a + 1 * (j a).val
  rw [index5 t a]
  omega

/-- The new streams after the run. -/
theorem final5 : (dats m 0 c).arrAt 5 cfg0.N = resNew (argH m c) (argHc m c) (argW m c) (argS m c) (argX m c) := by
  refine (dats m 0 c).arrAt_eq_of_cover 5 _ (flushed5 m c) fun i => ?_
  refine ⟨t0_0, flush0_5 t0_0, ?_⟩
  show i ∈ ((View.whole main_v0_0).slice (win0_5.rect t0_0)).set
  rw [View.set_slice_whole, Rect.mem_set_unit]
  intro a
  show win0_5.index t0_0 a * win0_5.size a ≤ (i a).val ∧ (i a).val < win0_5.index t0_0 a * win0_5.size a + win0_5.xsize (grid0.coords t0_0) a
  rw [index5 t0_0 a, xsize5 t0_0 a]
  have : (i a).val < main_v0_0.ty.shape.size a := (i a).isLt
  omega

/-- The one block of output 6 starts at the origin. -/
theorem index6 : ∀ (t : Fin grid0.N) (a : Fin 2), win0_6.index t a * win0_6.size a = 0 := by decide +kernel

/-- The one block of output 6 is the whole array. -/
theorem xsize6 : ∀ (t : Fin grid0.N) (a : Fin 2), win0_6.xsize (grid0.coords t) a = main_v0_1.ty.shape.size a := by decide +kernel

/-- The one point writes back the projection. -/
theorem flushed6 (t : Fin cfg0.N) (hf : (cfg0.win 6).flush t = true) : (dats m 0 c).flushed 6 t
    = ((cfg0.win 6).blk t).view.read (Elt Ideal) (res (argH m c) (argW m c) (argS m c)) := by
  show (cfg0.win 6).cut (grid0.coords t) ((dats m 0 c).after 6 t) = _
  rw [after0_6, out6_res, iblk0, iblk2, iblk3]
  funext j
  rw [View.read_apply]
  show res _ _ _ _ = res _ _ _ _
  congr 1
  funext a
  apply Fin.ext
  show (j a).val = win0_6.index t a * win0_6.size a + 1 * (j a).val
  rw [index6 t a]
  omega

/-- The projection after the run. -/
theorem final6 : (dats m 0 c).arrAt 6 cfg0.N = res (argH m c) (argW m c) (argS m c) := by
  refine (dats m 0 c).arrAt_eq_of_cover 6 _ (flushed6 m c) fun i => ?_
  refine ⟨t0_0, flush0_6 t0_0, ?_⟩
  show i ∈ ((View.whole main_v0_1).slice (win0_6.rect t0_0)).set
  rw [View.set_slice_whole, Rect.mem_set_unit]
  intro a
  show win0_6.index t0_0 a * win0_6.size a ≤ (i a).val ∧ (i a).val < win0_6.index t0_0 a * win0_6.size a + win0_6.xsize (grid0.coords t0_0) a
  rw [index6 t0_0 a, xsize6 t0_0 a]
  have : (i a).val < main_v0_1.ty.shape.size a := (i a).isLt
  omega

/-- The run: both results, and the arguments as they were. -/
theorem run : θ_run defs (onTc (τ := τ) (main (F := Ideal))) ⟨m, fun _ => 0, ρ⟩ fun r => ∀ c : Dev nD,
      r.2.mem ((c : Thread nD τ).loc main_v0_0) = resNew (argH m c) (argHc m c) (argW m c) (argS m c) (argX m c)
      ∧ r.2.mem ((c : Thread nD τ).loc main_v0_1) = res (argH m c) (argW m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.DownReferenceIdeal.Result
-- ==== Proof.DownRun.lean ====
/-
  The down projection: what the body leaves in its block of the result at each grid point, and the result array after
  the kernel's run.
-/
module

public import proofs.«01_k».proof.Proof.DownWiden
public import proofs.«01_k».proof.Proof.DownReference

@[expose] public section

noncomputable section

open Idealize.ShloMosaic Idealize.ShloMosaic.TcCoe Idealize.SL.Sem
open Idealize.ShloMosaic.Pipeline (Dat)

namespace Cert.DownIdeal.Tile

open Cert.DownIdeal Cert.DownIdeal.Gen
open Cert.KernelIdeal.Tile (canon_eq_of_pieces)
open Cert.DownReferenceIdeal.Read (prod res)

/-- The grid point as a number below 16. -/
abbrev gp (i : grid0.Coords) : Fin 16 := i 0

/-- Row `m` of chunk `b`, in the whole array. -/
abbrev row (b : Fin 6) (m : Fin 256) : Fin 1536 := ⟨256 * b.val + m.val, by omega⟩

/-- Column `n` of grid point `I`, in the whole array. -/
abbrev col (I : Fin 16) (n : Fin 256) : Fin 4096 := ⟨I.val * 256 + n.val, by omega⟩

/-- The rows of chunk `b` lie inside the left operand. -/
theorem inbH : ∀ b : Fin 6, ∀ a, (![256 * b.val, 0] : Fin 2 → Nat) a + S256x3584.size a ≤ S1536x3584.size a := by decide

/-- The rows of chunk `b` lie inside the block of the result. -/
theorem inbF : ∀ b : Fin 6, ∀ a, (![256 * b.val, 0] : Fin 2 → Nat) a + S256x256.size a ≤ S1536x256.size a := by decide

/-- A chunk's entry from its operands. -/
theorem pay70_apply (A : Vec Ideal S256x3584 .bf16) (W : Vec Ideal S3584x256 .bf16) (m n : Fin 256) :
    k0_pay70 (F := Ideal) A W (ix2 m n) = ∑ k : Fin 3584, (A (ix2 m k) : EReal) * (W (ix2 k n) : EReal) := by
  pointwise [k0_pay70, k0_pay69]

variable (c : Dev nD) (i : grid0.Coords) (arg1 : Memref sig .tc .smem S28x32 .f32) (harg1 : arg1.IsWhole)
  (arg2 : Memref sig .tc .vmem S1536x3584 .bf16) (harg2 : arg2.IsWhole)
  (arg3 : Memref sig .tc .vmem S1536x128 .f32) (harg3 : arg3.IsWhole)
  (arg4 : Memref sig .tc .vmem S3584x256 .fp8e4m3) (harg4 : arg4.IsWhole)
  (arg5 : Memref sig .tc .vmem S1536x2x4x128 .bf16) (harg5 : arg5.IsWhole)
  (arg6 : Memref sig .tc .vmem S1536x2x4x128 .bf16) (harg6 : arg6.IsWhole)
  (arg7 : Memref sig .tc .vmem S1536x256 .bf16) (harg7 : arg7.IsWhole)
  (arg8 : Memref sig .tc .vmem S3584x256 .bf16) (harg8 : arg8.IsWhole)
  (x0 : Vec Ideal S28x32 .f32) (x1 : Vec Ideal S1536x3584 .bf16) (x2 : Vec Ideal S1536x128 .f32)
  (x3 : Vec Ideal S3584x256 .fp8e4m3) (x4 : Vec Ideal S1536x2x4x128 .bf16)

/-- The chunk of the result the body computes from the 256 rows at `256 * b`. -/
def chunk (b : Fin 6) : FVec Ideal S256x256 .bf16 :=
  k0_pay70 (View.readAt (Elt Ideal) arg2.view (Rect.unit (s := S1536x3584) ![256 * b.val, 0] S256x3584.size
      (inbH b)).toLoadRect (harg2.unread x1))
    (kernelRun0_A.sl.v618 (F := Ideal) c i arg1 harg1 arg4 harg4 arg8 x0 x3)

/-- The store of one chunk. -/
def piece (b : Fin 6) : View.Piece (Elt Ideal) S1536x256 .bf16 :=
  ⟨Rect.unit ![256 * b.val, 0] S256x256.size (inbF b), chunk c i arg1 harg1 arg2 harg2 arg4 harg4 arg8 x0 x1 x3 b⟩

/-- The chunks, last first. -/
def chunks {α : Type} (f : Fin 6 → α) : List α := [f 5, f 4, f 3, f 2, f 1, f 0]

/-- A member of the list of chunks is one of the chunks. -/
theorem mem_chunks {α : Type} (f : Fin 6 → α) (p : α) (h : p ∈ chunks f) : ∃ b, p = f b := by
  simp only [chunks, List.mem_cons, List.not_mem_nil, or_false] at h
  rcases h with h | h | h | h | h | h <;> exact ⟨_, h⟩

/-- The rows of the left operand a chunk reads. -/
theorem rows_apply (b : Fin 6) (m : Fin 256) (k : Fin 3584) :
    View.readAt (Elt Ideal) arg2.view (Rect.unit (s := S1536x3584) ![256 * b.val, 0] S256x3584.size (inbH b)).toLoadRect
      (harg2.unread x1) (ix2 m k) = x1 (ix2 (row b m) k) := by
  rw [View.readAt_eq_ld, harg2.read_unread]
  show x1 _ = x1 _
  refine congrArg _ (funext fun a => Fin.ext ?_)
  match a with
  | ⟨0, _⟩ => show 256 * b.val + 1 * m.val = 256 * b.val + m.val; omega
  | ⟨1, _⟩ => show 0 + 1 * k.val = k.val; omega

variable (w : Vec Ideal S3584x4096 .fp8e4m3)
  (hw : ∀ (k : Fin 3584) (n : Fin 256), x3 (ix2 k n) = w (ix2 k (col (gp i) n)))

include hw in
/-- Each chunk is a part of the result, when the weight block holds columns `256 * i + n` of the weight. -/
theorem chunk_apply (b : Fin 6) (m n : Fin 256) :
    chunk c i arg1 harg1 arg2 harg2 arg4 harg4 arg8 x0 x1 x3 b (ix2 m n) = prod x1 w x0 (row b m) (col (gp i) n) := by
  unfold chunk
  rw [pay70_apply, scratch_eq]
  unfold prod
  refine Finset.sum_congr rfl fun k _ => ?_
  rw [rows_apply]
  refine congrArg _ ?_
  show (x3 (ix2 k n) : EReal) * (x0 (ix2 (⟨k.val / 128, _⟩ : Fin 28) (⟨2 * (gp i).val + n.val / 128, _⟩ : Fin 32)) : EReal) = _
  rw [hw]
  refine congrArg (fun g : Fin 32 => (w (ix2 k (col (gp i) n)) : EReal) * (x0 (ix2 (⟨k.val / 128, by omega⟩ : Fin 28) g) : EReal)) (Fin.ext ?_)
  show 2 * (gp i).val + n.val / 128 = ((gp i).val * 256 + n.val) / 128
  omega

/-- The part of the result that belongs to grid point `I`. -/
def blk (h : Vec Ideal S1536x3584 .bf16) (s : Vec Ideal S28x32 .f32) (I : Fin 16) : Vec Ideal S1536x256 .bf16 :=
  fun j => prod h w s (j 0) (col I (j 1))

include hw in
/-- Every store of a chunk writes the values of that part. -/
theorem piece_F (p : View.Piece (Elt Ideal) S1536x256 .bf16)
    (hp : p ∈ chunks (piece c i arg1 harg1 arg2 harg2 arg4 harg4 arg8 x0 x1 x3)) :
    ∀ x, p.2 x = blk w x1 x0 (gp i) (p.1.emb x) := by
  obtain ⟨b, rfl⟩ := mem_chunks _ _ hp
  intro x
  obtain ⟨m, n, rfl⟩ : ∃ (m n : Fin 256), x = (ix2 m n : S256x256.Idx) := ⟨x 0, x 1, eq_ix2 (x : S256x256.Idx)⟩
  refine (chunk_apply c i arg1 harg1 arg2 harg2 arg4 harg4 arg8 x0 x1 x3 w hw b m n).trans ?_
  refine congrArg₂ (prod x1 w x0) (Fin.ext ?_) (Fin.ext ?_)
  · show 256 * b.val + m.val = 256 * b.val + 1 * m.val; omega
  · show (gp i).val * 256 + n.val = (gp i).val * 256 + (0 + 1 * n.val); omega

/-- The pieces of the result's block. -/
theorem pieces6 : (kernelRun0_A (F := Ideal) c i arg1 harg1 arg2 harg2 arg3 harg3 arg4 harg4 arg5 harg5 arg6 harg6 arg7 harg7 arg8 harg8 x0 x1 x2 x3 x4).2.1
    = chunks (piece c i arg1 harg1 arg2 harg2 arg4 harg4 arg8 x0 x1 x3) := by
  sl_kernel_rfl

include hw in
/-- The result's block is the grid point's part of the result. -/
theorem out6_blk : out0_A_6 (F := Ideal) c i arg1 harg1 arg2 harg2 arg3 harg3 arg4 harg4 arg5 harg5 arg6 harg6 arg7 harg7 arg8 harg8 x0 x1 x2 x3 x4
    = blk w x1 x0 (gp i) := by
  unfold out0_A_6
  rw [View.read_writes_junk_eq_canon, pieces6]
  refine canon_eq_of_pieces _ _ (piece_F c i arg1 harg1 arg2 harg2 arg4 harg4 arg8 x0 x1 x3 w hw) ?_
  rw [← pieces6 c i arg1 harg1 arg2 harg2 arg3 harg3 arg4 harg4 arg5 harg5 arg6 harg6 arg7 harg7 arg8 harg8 x0 x1 x2 x3 x4]
  exact cover0_A_6 c i arg1 harg1 arg2 harg2 arg3 harg3 arg4 harg4 arg5 harg5 arg6 harg6 arg7 harg7 arg8 harg8 x0 x1 x2 x3 x4

end Cert.DownIdeal.Tile

namespace Cert.DownIdeal.Result

open Cert.DownIdeal Cert.DownIdeal.Gen Cert.DownIdeal.Value Cert.DownIdeal.Tile
open Cert.DownReferenceIdeal.Read (prod res)

variable (m : (ℓ : Loc nD τ sig) → Buf (Elt Ideal) ℓ) (ρ : Dev nD → PrngReg) (c : Dev nD)

/-- The left operand, as the memory holds it at the start. -/
abbrev argH : Vec Ideal S1536x3584 .bf16 := m ((c : Thread nD τ).loc main_arg0)
/-- The weight codes, as the memory holds them at the start. -/
abbrev argW : Vec Ideal S3584x4096 .fp8e4m3 := m ((c : Thread nD τ).loc main_arg2)
/-- The weight scales, as the memory holds them at the start. -/
abbrev argS : Vec Ideal S28x32 .f32 := m ((c : Thread nD τ).loc main_arg3)

/-- Where the block of operand 0 starts at each grid step. -/
theorem index0 : ∀ (t : Fin grid0.N) (a : Fin 2), win0_0.index t a * win0_0.size a = 0 := by decide +kernel

/-- Window 0 holds the whole of its array. -/
theorem iblk0 (t : Fin cfg0.N) : (iblk m c 0 t : Vec Ideal S28x32 .f32) = argS m c := by
  funext j
  unfold iblk
  rw [View.read_apply]
  show V m c main_arg3 _ = m _ _
  unfold V
  congr 1
  funext a
  apply Fin.ext
  show win0_0.index t a * win0_0.size a + 1 * (j a).val = (j a).val
  rw [index0 t a]
  omega

/-- Where the block of operand 1 starts at each grid step. -/
theorem index1 : ∀ (t : Fin grid0.N) (a : Fin 2), win0_1.index t a * win0_1.size a = 0 := by decide +kernel

/-- Window 1 holds the whole of its array. -/
theorem iblk1 (t : Fin cfg0.N) : (iblk m c 1 t : Vec Ideal S1536x3584 .bf16) = argH m c := by
  funext j
  unfold iblk
  rw [View.read_apply]
  show V m c main_arg0 _ = m _ _
  unfold V
  congr 1
  funext a
  apply Fin.ext
  show win0_1.index t a * win0_1.size a + 1 * (j a).val = (j a).val
  rw [index1 t a]
  omega

/-- Where the block of operand 3 starts at each grid step. -/
theorem index3 : ∀ t : Fin grid0.N, win0_3.index t 0 * win0_3.size 0 = 0
    ∧ win0_3.index t 1 * win0_3.size 1 = (gp (grid0.coords t)).val * 256 := by decide +kernel

/-- Window 3 holds 256 columns of the weight. -/
theorem iblk3 (t : Fin cfg0.N) (k : Fin 3584) (n : Fin 256) :
    (iblk m c 3 t : Vec Ideal S3584x256 .fp8e4m3) (ix2 k n) = argW m c (ix2 k (col (gp (grid0.coords t)) n)) := by
  unfold iblk
  rw [View.read_apply]
  show V m c main_arg2 _ = m _ _
  unfold V
  congr 1
  funext a
  apply Fin.ext
  match a with
  | ⟨0, _⟩ => show win0_3.index t 0 * win0_3.size 0 + 1 * k.val = k.val; rw [(index3 t).1]; omega
  | ⟨1, _⟩ => show win0_3.index t 1 * win0_3.size 1 + 1 * n.val = (gp (grid0.coords t)).val * 256 + n.val; rw [(index3 t).2]; omega

/-- The point that writes column `n`. -/
theorem coords_val : ∀ t : Fin grid0.N, (gp (grid0.coords t)).val = t.val := by decide +kernel

/-- Where the block of the result starts at each grid step. -/
theorem index6 : ∀ t : Fin grid0.N, win0_6.index t 0 * win0_6.size 0 = 0 ∧ win0_6.index t 1 * win0_6.size 1 = (gp (grid0.coords t)).val * 256 := by decide +kernel

/-- The size of the block of the result, the same at each grid step. -/
theorem xsize6 : ∀ t : Fin grid0.N, win0_6.xsize (grid0.coords t) 0 = 1536 ∧ win0_6.xsize (grid0.coords t) 1 = 256 := by decide +kernel

/-- Each point writes back its part of the result. -/
theorem flushed6_res (t : Fin cfg0.N) (hf : (cfg0.win 6).flush t = true) : (dats m 0 c).flushed 6 t
    = ((cfg0.win 6).blk t).view.read (Elt Ideal) (res (argH m c) (argW m c) (argS m c)) := by
  rw [flushed6_A, out6_blk (w := argW m c) (hw := iblk3 m c t), iblk0, iblk1]
  funext j
  rw [View.read_apply]
  obtain ⟨i0, i1⟩ := index6 t
  refine congrArg₂ (prod (argH m c) (argW m c) (argS m c)) (Fin.ext ?_) (Fin.ext ?_)
  · show (j 0).val = win0_6.index t 0 * win0_6.size 0 + 1 * (j 0).val; rw [i0]; omega
  · show (gp (grid0.coords t)).val * 256 + (j 1).val = win0_6.index t 1 * win0_6.size 1 + 1 * (j 1).val; rw [i1]; omega

/-- The result array after the run. -/
theorem final6 : (dats m 0 c).arrAt 6 cfg0.N = res (argH m c) (argW m c) (argS m c) := by
  refine (dats m 0 c).arrAt_eq_of_cover 6 _ (flushed6_res m c) fun i => ?_
  have h0 : (i 0).val < 1536 := (i 0).isLt
  have h1 : (i 1).val < 4096 := (i 1).isLt
  let t : Fin grid0.N := ⟨(i 1).val / 256, by rw [N_0]; omega⟩
  have ht : (gp (grid0.coords t)).val = (i 1).val / 256 := coords_val t
  refine ⟨t, flush0_6 t, ?_⟩
  show i ∈ ((View.whole main_v0_1).slice (win0_6.rect t)).set
  rw [View.set_slice_whole, Rect.mem_set_unit]
  obtain ⟨i0, i1⟩ := index6 t
  obtain ⟨x0, x1⟩ := xsize6 t
  intro a
  match a with
  | ⟨0, _⟩ =>
    show win0_6.index t 0 * win0_6.size 0 ≤ (i 0).val ∧ (i 0).val < win0_6.index t 0 * win0_6.size 0 + win0_6.xsize (grid0.coords t) 0
    rw [i0, x0]; omega
  | ⟨1, _⟩ =>
    show win0_6.index t 1 * win0_6.size 1 ≤ (i 1).val ∧ (i 1).val < win0_6.index t 1 * win0_6.size 1 + win0_6.xsize (grid0.coords t) 1
    rw [i1, x1]; omega

end Cert.DownIdeal.Result
-- ==== Proof.DownNew.lean ====
/-
  The new streams of the down projection: what the body leaves in its block of them at each grid point, and the array
  after the kernel's run.
-/
module

public import proofs.«01_k».proof.Proof.DownStream
public import proofs.«01_k».proof.Proof.DownRun

@[expose] public section

noncomputable section

open Idealize.ShloMosaic Idealize.ShloMosaic.TcCoe Idealize.SL.Sem
open Idealize.ShloMosaic.Pipeline (Dat)

namespace Cert.DownIdeal.Tile

open Cert.DownIdeal Cert.DownIdeal.Gen
open Cert.KernelIdeal.Tile (canon_eq_of_pieces)
open Cert.DownReferenceIdeal.Read (prod newAt)

/-- The rows of a tile lie inside the row weights. -/
theorem inbC (b : Fin 6) (g : Fin 32) : ∀ a, (![256 * b.val + 8 * g.val, 0] : Fin 2 → Nat) a + S8x128.size a ≤ S1536x128.size a := by
  intro a
  match a with
  | ⟨0, _⟩ => show 256 * b.val + 8 * g.val + 8 ≤ 1536; omega
  | ⟨1, _⟩ => show 0 + 128 ≤ 128; omega

/-- A tile of two streams lies inside the block of streams. -/
theorem inbN (b : Fin 6) (g : Fin 32) (e p : Fin 2) :
    ∀ a, (![256 * b.val + 8 * g.val, e.val, 2 * p.val, 0] : Fin 4 → Nat) a + S8x1x2x128.size a ≤ S1536x2x4x128.size a := by
  intro a
  match a with
  | ⟨0, _⟩ => show 256 * b.val + 8 * g.val + 8 ≤ 1536; omega
  | ⟨1, _⟩ => show e.val + 1 ≤ 2; omega
  | ⟨2, _⟩ => show 2 * p.val + 2 ≤ 4; omega
  | ⟨3, _⟩ => show 0 + 128 ≤ 128; omega

/-- Row `r` of tile `g` of chunk `b`, in the whole array. -/
abbrev trow (b : Fin 6) (g : Fin 32) (r : Fin 8) : Fin 1536 := row b ⟨8 * g.val + r.val, by omega⟩

/-- Column group `e` of grid point `I`, in the whole array. -/
abbrev grp (I : Fin 16) (e : Fin 2) : Fin 32 := ⟨2 * I.val + e.val, by omega⟩

variable (c : Dev nD) (i : grid0.Coords) (arg1 : Memref sig .tc .smem S28x32 .f32) (harg1 : arg1.IsWhole)
  (arg2 : Memref sig .tc .vmem S1536x3584 .bf16) (harg2 : arg2.IsWhole)
  (arg3 : Memref sig .tc .vmem S1536x128 .f32) (harg3 : arg3.IsWhole)
  (arg4 : Memref sig .tc .vmem S3584x256 .fp8e4m3) (harg4 : arg4.IsWhole)
  (arg5 : Memref sig .tc .vmem S1536x2x4x128 .bf16) (harg5 : arg5.IsWhole)
  (arg6 : Memref sig .tc .vmem S1536x2x4x128 .bf16) (harg6 : arg6.IsWhole)
  (arg7 : Memref sig .tc .vmem S1536x256 .bf16) (harg7 : arg7.IsWhole)
  (arg8 : Memref sig .tc .vmem S3584x256 .bf16) (harg8 : arg8.IsWhole)
  (x0 : Vec Ideal S28x32 .f32) (x1 : Vec Ideal S1536x3584 .bf16) (x2 : Vec Ideal S1536x128 .f32)
  (x3 : Vec Ideal S3584x256 .fp8e4m3) (x4 : Vec Ideal S1536x2x4x128 .bf16)

/-- A chunk of the projection before it is rounded. -/
def chunk32 (b : Fin 6) : FVec Ideal S256x256 .f32 :=
  k0_pay69 (View.readAt (Elt Ideal) arg2.view (Rect.unit (s := S1536x3584) ![256 * b.val, 0] S256x3584.size
      (inbH b)).toLoadRect (harg2.unread x1))
    (kernelRun0_A.sl.v618 (F := Ideal) c i arg1 harg1 arg4 harg4 arg8 x0 x3)

/-- The tile of row weights the body reads. -/
def tileC (b : Fin 6) (g : Fin 32) : Vec Ideal S8x128 .f32 :=
  View.readAt (Elt Ideal) arg3.view (Rect.unit (s := S1536x128) ![256 * b.val + 8 * g.val, 0] S8x128.size
    (inbC b g)).toLoadRect (harg3.unread x2)

/-- The tile of two streams the body reads. -/
def tileX (b : Fin 6) (g : Fin 32) (e p : Fin 2) : Vec Ideal S8x1x2x128 .bf16 :=
  View.readAt (Elt Ideal) arg5.view (Rect.unit (s := S1536x2x4x128) ![256 * b.val + 8 * g.val, e.val, 2 * p.val, 0] S8x1x2x128.size
    (inbN b g e p)).toLoadRect (harg5.unread x4)

/-- The store of two new streams on a tile. -/
def pieceN (b : Fin 6) (g : Fin 32) (e p : Fin 2) : View.Piece (Elt Ideal) S1536x2x4x128 .bf16 :=
  ⟨Rect.unit ![256 * b.val + 8 * g.val, e.val, 2 * p.val, 0] S8x1x2x128.size (inbN b g e p),
    packed (tileC arg3 harg3 x2 b g) (tileX arg5 harg5 x4 b g e 0) (tileX arg5 harg5 x4 b g e 1)
      (tileOf (chunk32 c i arg1 harg1 arg2 harg2 arg4 harg4 arg8 x0 x1 x3 b) g e) p⟩

/-- The tiles of a chunk, last first. -/
def tiles {α : Type} (f : Fin 32 → List α) : List α :=
  List.flatten [f 31, f 30, f 29, f 28, f 27, f 26, f 25, f 24, f 23, f 22, f 21, f 20, f 19, f 18, f 17, f 16, f 15, f 14, f 13, f 12, f 11, f 10, f 9, f 8, f 7, f 6, f 5, f 4, f 3, f 2, f 1, f 0]

/-- A member of the list of tiles is in one of the tiles' lists. -/
theorem mem_tiles {α : Type} (f : Fin 32 → List α) (p : α) (h : p ∈ tiles f) : ∃ g, p ∈ f g := by
  obtain ⟨l, hl, hp⟩ := List.mem_flatten.mp h
  simp only [List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact ⟨_, hp⟩

/-- All stores of new streams, last first. -/
def news {α : Type} (f : Fin 6 → Fin 32 → Fin 2 → Fin 2 → α) : List α :=
  (chunks fun b => tiles fun g => [f b g 1 1, f b g 1 0, f b g 0 1, f b g 0 0]).flatten

/-- A member of that list is one of the stores. -/
theorem mem_news {α : Type} (f : Fin 6 → Fin 32 → Fin 2 → Fin 2 → α) (x : α) (h : x ∈ news f) : ∃ b g e p, x = f b g e p := by
  obtain ⟨l, hl, hx⟩ := List.mem_flatten.mp h
  obtain ⟨b, rfl⟩ := mem_chunks _ _ hl
  obtain ⟨g, hg⟩ := mem_tiles _ _ hx
  simp only [List.mem_cons, List.not_mem_nil, or_false] at hg
  rcases hg with h | h | h | h <;> exact ⟨b, g, _, _, h⟩

/-- The row weights of a tile. -/
theorem tileC_apply (b : Fin 6) (g : Fin 32) (r : Fin 8) (k : Fin 128) :
    tileC arg3 harg3 x2 b g (ix2 r k) = x2 (ix2 (trow b g r) k) := by
  unfold tileC
  rw [View.readAt_eq_ld, harg3.read_unread]
  show x2 _ = x2 _
  refine congrArg _ (funext fun a => Fin.ext ?_)
  match a with
  | ⟨0, _⟩ => show 256 * b.val + 8 * g.val + 1 * r.val = 256 * b.val + (8 * g.val + r.val); omega
  | ⟨1, _⟩ => show 0 + 1 * k.val = k.val; omega

/-- The streams of a tile. -/
theorem tileX_apply (b : Fin 6) (g : Fin 32) (e p q : Fin 2) (r : Fin 8) (l : Fin 128) :
    tileX arg5 harg5 x4 b g e p (ix4 r 0 q l) = x4 (ix4 (trow b g r) e (⟨2 * p.val + q.val, by omega⟩ : Fin 4) l) := by
  unfold tileX
  rw [View.readAt_eq_ld, harg5.read_unread]
  show x4 _ = x4 _
  refine congrArg _ (funext fun a => Fin.ext ?_)
  match a with
  | ⟨0, _⟩ => show 256 * b.val + 8 * g.val + 1 * r.val = 256 * b.val + (8 * g.val + r.val); omega
  | ⟨1, _⟩ => show e.val + 1 * 0 = e.val; omega
  | ⟨2, _⟩ => show 2 * p.val + 1 * q.val = 2 * p.val + q.val; omega
  | ⟨3, _⟩ => show 0 + 1 * l.val = l.val; omega

variable (w : Vec Ideal S3584x4096 .fp8e4m3)
  (hw : ∀ (k : Fin 3584) (n : Fin 256), x3 (ix2 k n) = w (ix2 k (col (gp i) n)))
  (X : Vec Ideal Cert.DownReferenceIdeal.S1536x32x4x128 .bf16)
  (hX : ∀ (m : Fin 1536) (e : Fin 2) (a : Fin 4) (l : Fin 128), x4 (ix4 m e a l) = X (ix4 m (grp (gp i) e) a l))

include hw in
/-- A tile of the projection is a part of the whole. -/
theorem chunk32_apply (b : Fin 6) (m n : Fin 256) :
    chunk32 c i arg1 harg1 arg2 harg2 arg4 harg4 arg8 x0 x1 x3 b (ix2 m n) = prod x1 w x0 (row b m) (col (gp i) n) :=
  chunk_apply c i arg1 harg1 arg2 harg2 arg4 harg4 arg8 x0 x1 x3 w hw b m n

include hw hX in
/-- Each store writes the new streams of its tile. -/
theorem pieceN_apply (b : Fin 6) (g : Fin 32) (e p q : Fin 2) (r : Fin 8) (l : Fin 128) :
    packed (tileC arg3 harg3 x2 b g) (tileX arg5 harg5 x4 b g e 0) (tileX arg5 harg5 x4 b g e 1)
      (tileOf (chunk32 c i arg1 harg1 arg2 harg2 arg4 harg4 arg8 x0 x1 x3 b) g e) p (ix4 r 0 q l)
    = newAt x1 x2 w x0 X (trow b g r) (grp (gp i) e) ⟨2 * p.val + q.val, by omega⟩ l := by
  rw [packed_apply, mix_apply, tileOf_apply, chunk32_apply (w := w) (hw := hw)]
  simp only [tileC_apply, tileX_apply, hX]
  unfold newAt
  rw [Fin.sum_univ_four]
  have e1 : ∀ (k k' : Fin 128), k.val = k'.val → (x2 (ix2 (trow b g r) k) : EReal) = x2 (ix2 (trow b g r) k') := fun k k' h => by rw [Fin.ext h]
  have e2 : ∀ (k k' : Fin 4096), k.val = k'.val → prod x1 w x0 (trow b g r) k = prod x1 w x0 (trow b g r) k' := fun k k' h => by rw [Fin.ext h]
  refine congrArg₂ (· + ·) (congrArg₂ (· + ·) (congrArg₂ (· + ·) (congrArg₂ (· + ·) ?_ ?_) ?_) ?_) ?_ <;>
    refine congrArg₂ (· * ·) (e1 _ _ ?_) ?_
  · show 8 + 4 * (2 * p.val + q.val) = 8 + ((2 * p.val + q.val) * 4 + 0); omega
  · rfl
  · show 9 + 4 * (2 * p.val + q.val) = 8 + ((2 * p.val + q.val) * 4 + 1); omega
  · rfl
  · show 10 + 4 * (2 * p.val + q.val) = 8 + ((2 * p.val + q.val) * 4 + 2); omega
  · rfl
  · show 11 + 4 * (2 * p.val + q.val) = 8 + ((2 * p.val + q.val) * 4 + 3); omega
  · rfl
  · rfl
  · refine e2 _ _ ?_
    show (gp i).val * 256 + (128 * e.val + l.val) = (2 * (gp i).val + e.val) * 128 + l.val
    omega

/-- The part of the new streams that belongs to grid point `I`. -/
def blkN (h : Vec Ideal S1536x3584 .bf16) (hc : Vec Ideal S1536x128 .f32) (s : Vec Ideal S28x32 .f32) (I : Fin 16) : Vec Ideal S1536x2x4x128 .bf16 :=
  fun j => newAt h hc w s X (j 0) (grp I (j 1)) (j 2) (j 3)

include hw hX in
/-- Every store of new streams writes the values of that part. -/
theorem pieceN_F (p : View.Piece (Elt Ideal) S1536x2x4x128 .bf16)
    (hp : p ∈ news (pieceN c i arg1 harg1 arg2 harg2 arg3 harg3 arg4 harg4 arg5 harg5 arg8 x0 x1 x2 x3 x4)) :
    ∀ x, p.2 x = blkN w X x1 x2 x0 (gp i) (p.1.emb x) := by
  obtain ⟨b, g, e, s, rfl⟩ := mem_news _ _ hp
  intro x
  obtain ⟨r, z, q, l, rfl⟩ : ∃ (r : Fin 8) (z : Fin 1) (q : Fin 2) (l : Fin 128), x = (ix4 r z q l : S8x1x2x128.Idx) :=
    ⟨x 0, x 1, x 2, x 3, eq_ix4 (x : S8x1x2x128.Idx)⟩
  obtain rfl : z = 0 := Subsingleton.elim _ _
  refine (pieceN_apply c i arg1 harg1 arg2 harg2 arg3 harg3 arg4 harg4 arg5 harg5 arg8 x0 x1 x2 x3 x4 w hw X hX b g e s q r l).trans ?_
  unfold blkN
  have key : ∀ (m m' : Fin 1536) (u u' : Fin 32) (a a' : Fin 4) (l l' : Fin 128), m.val = m'.val → u.val = u'.val → a.val = a'.val → l.val = l'.val →
      newAt x1 x2 w x0 X m u a l = newAt x1 x2 w x0 X m' u' a' l' := fun m m' u u' a a' l l' h1 h2 h3 h4 => by
    rw [Fin.ext h1, Fin.ext h2, Fin.ext h3, Fin.ext h4]
  refine key _ _ _ _ _ _ _ _ ?_ ?_ ?_ ?_
  · show 256 * b.val + (8 * g.val + r.val) = 256 * b.val + 8 * g.val + 1 * r.val; omega
  · show 2 * (gp i).val + e.val = 2 * (gp i).val + (e.val + 1 * 0); omega
  · show 2 * s.val + q.val = 2 * s.val + 1 * q.val; omega
  · show l.val = 0 + 1 * l.val; omega

/-- The pieces of the block of new streams. -/
theorem pieces5 : (kernelRun0_A (F := Ideal) c i arg1 harg1 arg2 harg2 arg3 harg3 arg4 harg4 arg5 harg5 arg6 harg6 arg7 harg7 arg8 harg8 x0 x1 x2 x3 x4).1
    = news (pieceN c i arg1 harg1 arg2 harg2 arg3 harg3 arg4 harg4 arg5 harg5 arg8 x0 x1 x2 x3 x4) := by
  sl_kernel_rfl

include hw hX in
/-- The block of new streams is the grid point's part of them. -/
theorem out5_blk : out0_A_5 (F := Ideal) c i arg1 harg1 arg2 harg2 arg3 harg3 arg4 harg4 arg5 harg5 arg6 harg6 arg7 harg7 arg8 harg8 x0 x1 x2 x3 x4
    = blkN w X x1 x2 x0 (gp i) := by
  unfold out0_A_5
  rw [View.read_writes_junk_eq_canon, pieces5]
  refine canon_eq_of_pieces _ _ (pieceN_F c i arg1 harg1 arg2 harg2 arg3 harg3 arg4 harg4 arg5 harg5 arg8 x0 x1 x2 x3 x4 w hw X hX) ?_
  rw [← pieces5 c i arg1 harg1 arg2 harg2 arg3 harg3 arg4 harg4 arg5 harg5 arg6 harg6 arg7 harg7 arg8 harg8 x0 x1 x2 x3 x4]
  exact cover0_A_5 c i arg1 harg1 arg2 harg2 arg3 harg3 arg4 harg4 arg5 harg5 arg6 harg6 arg7 harg7 arg8 harg8 x0 x1 x2 x3 x4

end Cert.DownIdeal.Tile

namespace Cert.DownIdeal.Result

open Cert.DownIdeal Cert.DownIdeal.Gen Cert.DownIdeal.Value Cert.DownIdeal.Tile
open Cert.DownReferenceIdeal.Read (newAt resNew)

variable (m : (ℓ : Loc nD τ sig) → Buf (Elt Ideal) ℓ) (ρ : Dev nD → PrngReg) (c : Dev nD)

/-- The row weights, as the memory holds them at the start. -/
abbrev argHc : Vec Ideal S1536x128 .f32 := m ((c : Thread nD τ).loc main_arg1)
/-- The streams, as the memory holds them at the start. -/
abbrev argX : Vec Ideal Cert.DownReferenceIdeal.S1536x32x4x128 .bf16 := m ((c : Thread nD τ).loc main_arg4)

/-- Where the block of operand 2 starts at each grid step. -/
theorem index2 : ∀ (t : Fin grid0.N) (a : Fin 2), win0_2.index t a * win0_2.size a = 0 := by decide +kernel

/-- Window 2 holds the whole of its array. -/
theorem iblk2 (t : Fin cfg0.N) : (iblk m c 2 t : Vec Ideal S1536x128 .f32) = argHc m c := by
  funext j
  unfold iblk
  rw [View.read_apply]
  show V m c main_arg1 _ = m _ _
  unfold V
  congr 1
  funext a
  apply Fin.ext
  show win0_2.index t a * win0_2.size a + 1 * (j a).val = (j a).val
  rw [index2 t a]
  omega

/-- Where the block of operand 4 starts at each grid step. -/
theorem index4 : ∀ t : Fin grid0.N, win0_4.index t 0 * win0_4.size 0 = 0
    ∧ win0_4.index t 1 * win0_4.size 1 = 2 * (gp (grid0.coords t)).val
    ∧ win0_4.index t 2 * win0_4.size 2 = 0 ∧ win0_4.index t 3 * win0_4.size 3 = 0 := by decide +kernel

/-- Window 4 holds two column groups of the streams. -/
theorem iblk4 (t : Fin cfg0.N) (r : Fin 1536) (e : Fin 2) (a : Fin 4) (l : Fin 128) :
    (iblk m c 4 t : Vec Ideal S1536x2x4x128 .bf16) (ix4 r e a l) = argX m c (ix4 r (grp (gp (grid0.coords t)) e) a l) := by
  unfold iblk
  rw [View.read_apply]
  show V m c main_arg4 _ = m _ _
  unfold V
  congr 1
  funext b
  apply Fin.ext
  obtain ⟨i0, i1, i2, i3⟩ := index4 t
  match b with
  | ⟨0, _⟩ => show win0_4.index t 0 * win0_4.size 0 + 1 * r.val = r.val; rw [i0]; omega
  | ⟨1, _⟩ => show win0_4.index t 1 * win0_4.size 1 + 1 * e.val = 2 * (gp (grid0.coords t)).val + e.val; rw [i1]; omega
  | ⟨2, _⟩ => show win0_4.index t 2 * win0_4.size 2 + 1 * a.val = a.val; rw [i2]; omega
  | ⟨3, _⟩ => show win0_4.index t 3 * win0_4.size 3 + 1 * l.val = l.val; rw [i3]; omega

/-- Where the block of the new streams starts at each grid step. -/
theorem index5 : ∀ t : Fin grid0.N, win0_5.index t 0 * win0_5.size 0 = 0
    ∧ win0_5.index t 1 * win0_5.size 1 = 2 * (gp (grid0.coords t)).val
    ∧ win0_5.index t 2 * win0_5.size 2 = 0 ∧ win0_5.index t 3 * win0_5.size 3 = 0 := by decide +kernel

/-- The size of the block of the new streams, the same at each grid step. -/
theorem xsize5 : ∀ t : Fin grid0.N, win0_5.xsize (grid0.coords t) 0 = 1536 ∧ win0_5.xsize (grid0.coords t) 1 = 2
    ∧ win0_5.xsize (grid0.coords t) 2 = 4 ∧ win0_5.xsize (grid0.coords t) 3 = 128 := by decide +kernel

/-- Each point writes back its part of the new streams. -/
theorem flushed5_res (t : Fin cfg0.N) (hf : (cfg0.win 5).flush t = true) : (dats m 0 c).flushed 5 t
    = ((cfg0.win 5).blk t).view.read (Elt Ideal) (resNew (argH m c) (argHc m c) (argW m c) (argS m c) (argX m c)) := by
  rw [flushed5_A, out5_blk (w := argW m c) (hw := iblk3 m c t) (X := argX m c) (hX := iblk4 m c t), iblk0, iblk1, iblk2]
  funext j
  rw [View.read_apply]
  obtain ⟨i0, i1, i2, i3⟩ := index5 t
  have key : ∀ (r r' : Fin 1536) (u u' : Fin 32) (a a' : Fin 4) (l l' : Fin 128), r.val = r'.val → u.val = u'.val → a.val = a'.val → l.val = l'.val →
      newAt (argH m c) (argHc m c) (argW m c) (argS m c) (argX m c) r u a l = newAt (argH m c) (argHc m c) (argW m c) (argS m c) (argX m c) r' u' a' l' :=
    fun r r' u u' a a' l l' h1 h2 h3 h4 => by rw [Fin.ext h1, Fin.ext h2, Fin.ext h3, Fin.ext h4]
  refine key _ _ _ _ _ _ _ _ ?_ ?_ ?_ ?_
  · show (j 0).val = win0_5.index t 0 * win0_5.size 0 + 1 * (j 0).val; rw [i0]; omega
  · show 2 * (gp (grid0.coords t)).val + (j 1).val = win0_5.index t 1 * win0_5.size 1 + 1 * (j 1).val; rw [i1]; omega
  · show (j 2).val = win0_5.index t 2 * win0_5.size 2 + 1 * (j 2).val; rw [i2]; omega
  · show (j 3).val = win0_5.index t 3 * win0_5.size 3 + 1 * (j 3).val; rw [i3]; omega

/-- The array of new streams after the run. -/
theorem final5 : (dats m 0 c).arrAt 5 cfg0.N = resNew (argH m c) (argHc m c) (argW m c) (argS m c) (argX m c) := by
  refine (dats m 0 c).arrAt_eq_of_cover 5 _ (flushed5_res m c) fun i => ?_
  have h0 : (i 0).val < 1536 := (i 0).isLt
  have h1 : (i 1).val < 32 := (i 1).isLt
  have h2 : (i 2).val < 4 := (i 2).isLt
  have h3 : (i 3).val < 128 := (i 3).isLt
  let t : Fin grid0.N := ⟨(i 1).val / 2, by rw [N_0]; omega⟩
  have ht : (gp (grid0.coords t)).val = (i 1).val / 2 := coords_val t
  refine ⟨t, flush0_5 t, ?_⟩
  show i ∈ ((View.whole main_v0_0).slice (win0_5.rect t)).set
  rw [View.set_slice_whole, Rect.mem_set_unit]
  obtain ⟨i0, i1, i2, i3⟩ := index5 t
  obtain ⟨x0, x1, x2, x3⟩ := xsize5 t
  intro a
  match a with
  | ⟨0, _⟩ =>
    show win0_5.index t 0 * win0_5.size 0 ≤ (i 0).val ∧ (i 0).val < win0_5.index t 0 * win0_5.size 0 + win0_5.xsize (grid0.coords t) 0
    rw [i0, x0]; omega
  | ⟨1, _⟩ =>
    show win0_5.index t 1 * win0_5.size 1 ≤ (i 1).val ∧ (i 1).val < win0_5.index t 1 * win0_5.size 1 + win0_5.xsize (grid0.coords t) 1
    rw [i1, x1]; omega
  | ⟨2, _⟩ =>
    show win0_5.index t 2 * win0_5.size 2 ≤ (i 2).val ∧ (i 2).val < win0_5.index t 2 * win0_5.size 2 + win0_5.xsize (grid0.coords t) 2
    rw [i2, x2]; omega
  | ⟨3, _⟩ =>
    show win0_5.index t 3 * win0_5.size 3 ≤ (i 3).val ∧ (i 3).val < win0_5.index t 3 * win0_5.size 3 + win0_5.xsize (grid0.coords t) 3
    rw [i3, x3]; omega

end Cert.DownIdeal.Result
-- ==== Proof.lean ====
module

public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Defs
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceRun
public import proofs.«01_k».proof.Proof.DownNew
public import proofs.«01_k».proof.Proof.DownReference
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel and the reference, read exactly, end with equal results: each run's five arrays are the same functions of
    the arguments. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.ReferenceIdeal.Read.res0 (Cert.KernelIdeal.Result.argA m c) (Cert.KernelIdeal.Result.argWg m c)
      (Cert.KernelIdeal.Result.argWu m c) (Cert.KernelIdeal.Result.argSg m c) (Cert.KernelIdeal.Result.argSu m c),
    fun c => Cert.ReferenceIdeal.Read.res1 (Cert.KernelIdeal.Result.argA m c) (Cert.KernelIdeal.Result.argWg m c)
      (Cert.KernelIdeal.Result.argWu m c) (Cert.KernelIdeal.Result.argSg m c) (Cert.KernelIdeal.Result.argSu m c),
    fun c => Cert.ReferenceIdeal.Read.res2 (Cert.KernelIdeal.Result.argA m c) (Cert.KernelIdeal.Result.argWg m c)
      (Cert.KernelIdeal.Result.argWu m c) (Cert.KernelIdeal.Result.argSg m c) (Cert.KernelIdeal.Result.argSu m c),
    fun c => Cert.ReferenceIdeal.Read.res3 (Cert.KernelIdeal.Result.argA m c) (Cert.KernelIdeal.Result.argWg m c)
      (Cert.KernelIdeal.Result.argWu m c) (Cert.KernelIdeal.Result.argSg m c) (Cert.KernelIdeal.Result.argSu m c),
    fun c => Cert.ReferenceIdeal.Read.res4 (Cert.KernelIdeal.Result.argA m c) (Cert.KernelIdeal.Result.argWg m c)
      (Cert.KernelIdeal.Result.argWu m c) (Cert.KernelIdeal.Result.argSg m c) (Cert.KernelIdeal.Result.argSu m c), ?_, ?_⟩
  · exact (θ_run Cert.KernelIdeal.defs _ _).mono (fun r k c => by
      obtain ⟨k0, k1, k2, k3, k4, ka⟩ := k c
      exact ⟨k0.trans (Cert.KernelIdeal.Result.final5 m c), k1.trans (Cert.KernelIdeal.Result.final6 m c),
        k2.trans (Cert.KernelIdeal.Result.final7 m c), k3.trans (Cert.KernelIdeal.Result.final8 m c),
        k4.trans (Cert.KernelIdeal.Result.final9 m c), ka⟩) (Cert.KernelIdeal.Value.run_blocks (F := Ideal) m g)
  · exact (θ_run Cert.ReferenceIdeal.defs _ _).mono (fun r k c => by
      obtain ⟨k0, k1, k2, k3, k4, ka⟩ := k c
      obtain ⟨e0, e1, e2, e3, e4⟩ := h c
      have a0 : Cert.ReferenceIdeal.Result.argA m' c = Cert.KernelIdeal.Result.argA m c := e0
      have a1 : Cert.ReferenceIdeal.Result.argWg m' c = Cert.KernelIdeal.Result.argWg m c := e1
      have a2 : Cert.ReferenceIdeal.Result.argWu m' c = Cert.KernelIdeal.Result.argWu m c := e2
      have a3 : Cert.ReferenceIdeal.Result.argSg m' c = Cert.KernelIdeal.Result.argSg m c := e3
      have a4 : Cert.ReferenceIdeal.Result.argSu m' c = Cert.KernelIdeal.Result.argSu m c := e4
      rw [a0, a1, a2, a3, a4] at k0 k1 k2 k3 k4
      exact ⟨k0, k1, k2, k3, k4, ka⟩) (Cert.ReferenceIdeal.Result.run m' g')

/-- The down projection and its reference, read exactly, end with equal results: the new streams and the projection are
    the same functions of the arguments. -/
theorem downAlgebraic : Cert.algebraic_DownIdeal_DownReferenceIdeal (hDownIdeal := Cert.DownIdeal.Gen.facts)
    (hDownReferenceIdeal := Cert.DownReferenceIdeal.Gen.facts) := by
  intro m g m' g' _ h
  refine ⟨fun c => Cert.DownReferenceIdeal.Read.resNew (Cert.DownIdeal.Result.argH m c) (Cert.DownIdeal.Result.argHc m c)
      (Cert.DownIdeal.Result.argW m c) (Cert.DownIdeal.Result.argS m c) (Cert.DownIdeal.Result.argX m c),
    fun c => Cert.DownReferenceIdeal.Read.res (Cert.DownIdeal.Result.argH m c) (Cert.DownIdeal.Result.argW m c)
      (Cert.DownIdeal.Result.argS m c), ?_, ?_⟩
  · exact (θ_run Cert.DownIdeal.defs _ _).mono (fun r k c => by
      obtain ⟨k0, k1, ka⟩ := k c
      exact ⟨k0.trans (Cert.DownIdeal.Result.final5 m c), k1.trans (Cert.DownIdeal.Result.final6 m c), ka⟩)
      (Cert.DownIdeal.Value.run_blocks (F := Ideal) m g)
  · exact (θ_run Cert.DownReferenceIdeal.defs _ _).mono (fun r k c => by
      obtain ⟨k0, k1, ka⟩ := k c
      obtain ⟨e0, e1, e2, e3, e4⟩ := h c
      have a0 : Cert.DownReferenceIdeal.Result.argH m' c = Cert.DownIdeal.Result.argH m c := e0
      have a1 : Cert.DownReferenceIdeal.Result.argHc m' c = Cert.DownIdeal.Result.argHc m c := e1
      have a2 : Cert.DownReferenceIdeal.Result.argW m' c = Cert.DownIdeal.Result.argW m c := e2
      have a3 : Cert.DownReferenceIdeal.Result.argS m' c = Cert.DownIdeal.Result.argS m c := e3
      have a4 : Cert.DownReferenceIdeal.Result.argX m' c = Cert.DownIdeal.Result.argX m c := e4
      rw [a0, a1, a2, a3, a4] at k0
      rw [a0, a2, a3] at k1
      exact ⟨k0, k1, ka⟩) (Cert.DownReferenceIdeal.Result.run m' g')

/-- The rewrites of the down projection's ideal program are sound: a 32-bit word of two bf16 numbers is that pair, read,
    widened and packed. -/
theorem downPreserves : Cert.preserves_Down_DownIdeal :=
  ⟨IdealRules.bf16_pair.statement _ _, IdealRules.bf16_pair.statement _ _, IdealRules.bf16_pair.packStatement _⟩

/-- All ten claims, five for each of the two calls: the three programs run to the end and leave their arguments as they
were, the ideal program is the kernel over the extended reals, and it computes what the reference computes. -/
theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    fun m ρ _ => Cert.Kernel.Gen.frame m ρ, fun m ρ _ => Cert.KernelIdeal.Gen.frame m ρ,
    fun m ρ _ => Cert.ReferenceIdeal.Gen.frame m ρ,
    fun m ρ _ => Cert.Down.Gen.frame m ρ, fun m ρ _ => Cert.DownIdeal.Gen.frame m ρ,
    fun m ρ _ => Cert.DownReferenceIdeal.Gen.frame m ρ, trivial, algebraic, downPreserves, downAlgebraic⟩

end Cert.Proof

end
